-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S11x1024x8192 : Shape := ⟨3, ![11, 1024, 8192]⟩
abbrev S8192 : Shape := ⟨1, ![8192]⟩
abbrev S_ : Shape := ⟨0, ![]⟩

class Facts : Prop where
  bitsLt_bf16_f32 : FTy.bits .bf16 < FTy.bits .f32
  bcast_S_S8192 : S_.BroadcastsInDim S8192 (![] : Fin 0 → Fin S8192.rank)

variable [Facts]

def fn {F : FTy → Type} [FloatOps F] (main_arg0 : FVec F S11x1024x8192 .bf16) (main_arg1 : FVec F S11x1024x8192 .bf16) (main_arg2 : FVec F S8192 .bf16) : IVec S8192 1 :=
  let main_v0 : FVec F S8192 .f32 := (extf .f32 · bitsLt_bf16_f32) main_arg2
  let main_v1 : FVec F S8192 .f32 := Host.absf main_v0
  let main_cst : FVec F S_ .f32 := constant S_ .f32 0x7F7F0000#32
  let main_v2 : FVec F S8192 .f32 := broadcastInDim S8192 ![] bcast_S_S8192 main_cst
  let main_v3 : IVec S8192 1 := cmpf .ole main_v1 main_v2
  main_v3
-- ==== Kernel.lean ====
abbrev S11x1024x8192 : Shape := ⟨3, ![11, 1024, 8192]⟩
abbrev S8192 : Shape := ⟨1, ![8192]⟩
abbrev S1x8192 : Shape := ⟨2, ![1, 8192]⟩
abbrev S11264x8192 : Shape := ⟨2, ![11264, 8192]⟩
abbrev S11264x64 : Shape := ⟨2, ![11264, 64]⟩
abbrev S128x8192 : Shape := ⟨2, ![128, 8192]⟩
abbrev S128x64 : Shape := ⟨2, ![128, 64]⟩
abbrev S32x128 : Shape := ⟨2, ![32, 128]⟩
abbrev S32x256 : Shape := ⟨2, ![32, 256]⟩
abbrev S1x256 : Shape := ⟨2, ![1, 256]⟩
abbrev S32 : Shape := ⟨1, ![32]⟩
abbrev S32x1 : Shape := ⟨2, ![32, 1]⟩
abbrev S32x64 : Shape := ⟨2, ![32, 64]⟩

abbrev nBuf : Space → Nat
  | .hbm => 10
  | .vmem => 12
  | .smem => 0
  | _ => 0

abbrev bufTy : (tb : Table) → Fin (tcTables nBuf tb) → BufTy
  | .hbm, ⟨0, _⟩ => ⟨S11x1024x8192, .bf16⟩
  | .hbm, ⟨1, _⟩ => ⟨S11x1024x8192, .bf16⟩
  | .hbm, ⟨2, _⟩ => ⟨S8192, .bf16⟩
  | .hbm, ⟨3, _⟩ => ⟨S8192, .f32⟩
  | .hbm, ⟨4, _⟩ => ⟨S1x8192, .f32⟩
  | .hbm, ⟨5, _⟩ => ⟨S11264x8192, .bf16⟩
  | .hbm, ⟨6, _⟩ => ⟨S11264x8192, .bf16⟩
  | .hbm, ⟨7, _⟩ => ⟨S11264x8192, .bf16⟩
  | .hbm, ⟨8, _⟩ => ⟨S11264x8192, .fp8e4m3⟩
  | .hbm, ⟨9, _⟩ => ⟨S11264x64, .f32⟩
  | .local _ .vmem, ⟨0, _⟩ => ⟨S128x8192, .bf16⟩
  | .local _ .vmem, ⟨1, _⟩ => ⟨S128x8192, .bf16⟩
  | .local _ .vmem, ⟨2, _⟩ => ⟨S128x8192, .bf16⟩
  | .local _ .vmem, ⟨3, _⟩ => ⟨S128x8192, .bf16⟩
  | .local _ .vmem, ⟨4, _⟩ => ⟨S1x8192, .f32⟩
  | .local _ .vmem, ⟨5, _⟩ => ⟨S128x8192, .bf16⟩
  | .local _ .vmem, ⟨6, _⟩ => ⟨S128x8192, .bf16⟩
  | .local _ .vmem, ⟨7, _⟩ => ⟨S128x8192, .fp8e4m3⟩
  | .local _ .vmem, ⟨8, _⟩ => ⟨S128x8192, .fp8e4m3⟩
  | .local _ .vmem, ⟨9, _⟩ => ⟨S128x64, .f32⟩
  | .local _ .vmem, ⟨10, _⟩ => ⟨S128x64, .f32⟩
  | .local _ .vmem, ⟨11, _⟩ => ⟨S32x128, .f32⟩
  | _, _ => ⟨S11x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![88], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  v3
def k0_off1 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v6 : Index := Scalar.indexCast v4
  let c0 : Index := 0#32
  ![v6.toNat, 0]
def k0_off2 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v39 : Index := Scalar.indexCast v4
  let c256 : Index := 256#32
  ![v39.toNat, 256]
def k0_off3 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v72 : Index := Scalar.indexCast v4
  let c512 : Index := 512#32
  ![v72.toNat, 512]
def k0_off4 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v105 : Index := Scalar.indexCast v4
  let c768 : Index := 768#32
  ![v105.toNat, 768]
def k0_off5 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v138 : Index := Scalar.indexCast v4
  let c1024 : Index := 1024#32
  ![v138.toNat, 1024]
def k0_off6 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v171 : Index := Scalar.indexCast v4
  let c1280 : Index := 1280#32
  ![v171.toNat, 1280]
def k0_off7 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v204 : Index := Scalar.indexCast v4
  let c1536 : Index := 1536#32
  ![v204.toNat, 1536]
def k0_off8 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v237 : Index := Scalar.indexCast v4
  let c1792 : Index := 1792#32
  ![v237.toNat, 1792]
def k0_off9 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v270 : Index := Scalar.indexCast v4
  let c2048 : Index := 2048#32
  ![v270.toNat, 2048]
def k0_off10 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v303 : Index := Scalar.indexCast v4
  let c2304 : Index := 2304#32
  ![v303.toNat, 2304]
def k0_off11 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v336 : Index := Scalar.indexCast v4
  let c2560 : Index := 2560#32
  ![v336.toNat, 2560]
def k0_off12 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v369 : Index := Scalar.indexCast v4
  let c2816 : Index := 2816#32
  ![v369.toNat, 2816]
def k0_off13 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v402 : Index := Scalar.indexCast v4
  let c3072 : Index := 3072#32
  ![v402.toNat, 3072]
def k0_off14 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v435 : Index := Scalar.indexCast v4
  let c3328 : Index := 3328#32
  ![v435.toNat, 3328]
def k0_off15 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v468 : Index := Scalar.indexCast v4
  let c3584 : Index := 3584#32
  ![v468.toNat, 3584]
def k0_off16 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v501 : Index := Scalar.indexCast v4
  let c3840 : Index := 3840#32
  ![v501.toNat, 3840]
def k0_off17 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v534 : Index := Scalar.indexCast v4
  let c4096 : Index := 4096#32
  ![v534.toNat, 4096]
def k0_off18 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v567 : Index := Scalar.indexCast v4
  let c4352 : Index := 4352#32
  ![v567.toNat, 4352]
def k0_off19 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v600 : Index := Scalar.indexCast v4
  let c4608 : Index := 4608#32
  ![v600.toNat, 4608]
def k0_off20 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v633 : Index := Scalar.indexCast v4
  let c4864 : Index := 4864#32
  ![v633.toNat, 4864]
def k0_off21 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v666 : Index := Scalar.indexCast v4
  let c5120 : Index := 5120#32
  ![v666.toNat, 5120]
def k0_off22 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v699 : Index := Scalar.indexCast v4
  let c5376 : Index := 5376#32
  ![v699.toNat, 5376]
def k0_off23 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v732 : Index := Scalar.indexCast v4
  let c5632 : Index := 5632#32
  ![v732.toNat, 5632]
def k0_off24 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v765 : Index := Scalar.indexCast v4
  let c5888 : Index := 5888#32
  ![v765.toNat, 5888]
def k0_off25 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v798 : Index := Scalar.indexCast v4
  let c6144 : Index := 6144#32
  ![v798.toNat, 6144]
def k0_off26 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v831 : Index := Scalar.indexCast v4
  let c6400 : Index := 6400#32
  ![v831.toNat, 6400]
def k0_off27 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v864 : Index := Scalar.indexCast v4
  let c6656 : Index := 6656#32
  ![v864.toNat, 6656]
def k0_off28 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v897 : Index := Scalar.indexCast v4
  let c6912 : Index := 6912#32
  ![v897.toNat, 6912]
def k0_off29 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v930 : Index := Scalar.indexCast v4
  let c7168 : Index := 7168#32
  ![v930.toNat, 7168]
def k0_off30 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v963 : Index := Scalar.indexCast v4
  let c7424 : Index := 7424#32
  ![v963.toNat, 7424]
def k0_off31 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v996 : Index := Scalar.indexCast v4
  let c7680 : Index := 7680#32
  ![v996.toNat, 7680]
def k0_off32 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1029 : Index := Scalar.indexCast v4
  let c7936 : Index := 7936#32
  ![v1029.toNat, 7936]
def k0_off33 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1150 : Index := Scalar.indexCast v4
  let c0_282 : Index := 0#32
  ![v1150.toNat, 0]
def k0_off34 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1171 : Index := Scalar.indexCast v4
  let c0_288 : Index := 0#32
  ![v1171.toNat, 0]
def k0_off35 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1182 : Index := Scalar.indexCast v4
  let c128 : Index := 128#32
  ![v1182.toNat, 128]
def k0_off36 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1201 : Index := Scalar.indexCast v4
  let c256_296 : Index := 256#32
  ![v1201.toNat, 256]
def k0_off37 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1212 : Index := Scalar.indexCast v4
  let c384 : Index := 384#32
  ![v1212.toNat, 384]
def k0_off38 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1231 : Index := Scalar.indexCast v4
  let c512_304 : Index := 512#32
  ![v1231.toNat, 512]
def k0_off39 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1242 : Index := Scalar.indexCast v4
  let c640 : Index := 640#32
  ![v1242.toNat, 640]
def k0_off40 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1261 : Index := Scalar.indexCast v4
  let c768_312 : Index := 768#32
  ![v1261.toNat, 768]
def k0_off41 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1272 : Index := Scalar.indexCast v4
  let c896 : Index := 896#32
  ![v1272.toNat, 896]
def k0_off42 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1291 : Index := Scalar.indexCast v4
  let c1024_320 : Index := 1024#32
  ![v1291.toNat, 1024]
def k0_off43 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1302 : Index := Scalar.indexCast v4
  let c1152 : Index := 1152#32
  ![v1302.toNat, 1152]
def k0_off44 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1321 : Index := Scalar.indexCast v4
  let c1280_328 : Index := 1280#32
  ![v1321.toNat, 1280]
def k0_off45 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1332 : Index := Scalar.indexCast v4
  let c1408 : Index := 1408#32
  ![v1332.toNat, 1408]
def k0_off46 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1351 : Index := Scalar.indexCast v4
  let c1536_336 : Index := 1536#32
  ![v1351.toNat, 1536]
def k0_off47 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1362 : Index := Scalar.indexCast v4
  let c1664 : Index := 1664#32
  ![v1362.toNat, 1664]
def k0_off48 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1381 : Index := Scalar.indexCast v4
  let c1792_344 : Index := 1792#32
  ![v1381.toNat, 1792]
def k0_off49 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1392 : Index := Scalar.indexCast v4
  let c1920 : Index := 1920#32
  ![v1392.toNat, 1920]
def k0_off50 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1411 : Index := Scalar.indexCast v4
  let c2048_352 : Index := 2048#32
  ![v1411.toNat, 2048]
def k0_off51 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1422 : Index := Scalar.indexCast v4
  let c2176 : Index := 2176#32
  ![v1422.toNat, 2176]
def k0_off52 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1441 : Index := Scalar.indexCast v4
  let c2304_360 : Index := 2304#32
  ![v1441.toNat, 2304]
def k0_off53 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1452 : Index := Scalar.indexCast v4
  let c2432 : Index := 2432#32
  ![v1452.toNat, 2432]
def k0_off54 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1471 : Index := Scalar.indexCast v4
  let c2560_368 : Index := 2560#32
  ![v1471.toNat, 2560]
def k0_off55 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1482 : Index := Scalar.indexCast v4
  let c2688 : Index := 2688#32
  ![v1482.toNat, 2688]
def k0_off56 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1501 : Index := Scalar.indexCast v4
  let c2816_376 : Index := 2816#32
  ![v1501.toNat, 2816]
def k0_off57 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1512 : Index := Scalar.indexCast v4
  let c2944 : Index := 2944#32
  ![v1512.toNat, 2944]
def k0_off58 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1531 : Index := Scalar.indexCast v4
  let c3072_384 : Index := 3072#32
  ![v1531.toNat, 3072]
def k0_off59 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1542 : Index := Scalar.indexCast v4
  let c3200 : Index := 3200#32
  ![v1542.toNat, 3200]
def k0_off60 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1561 : Index := Scalar.indexCast v4
  let c3328_392 : Index := 3328#32
  ![v1561.toNat, 3328]
def k0_off61 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1572 : Index := Scalar.indexCast v4
  let c3456 : Index := 3456#32
  ![v1572.toNat, 3456]
def k0_off62 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1591 : Index := Scalar.indexCast v4
  let c3584_400 : Index := 3584#32
  ![v1591.toNat, 3584]
def k0_off63 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1602 : Index := Scalar.indexCast v4
  let c3712 : Index := 3712#32
  ![v1602.toNat, 3712]
def k0_off64 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1621 : Index := Scalar.indexCast v4
  let c3840_408 : Index := 3840#32
  ![v1621.toNat, 3840]
def k0_off65 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1632 : Index := Scalar.indexCast v4
  let c3968 : Index := 3968#32
  ![v1632.toNat, 3968]
def k0_off66 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1651 : Index := Scalar.indexCast v4
  let c4096_416 : Index := 4096#32
  ![v1651.toNat, 4096]
def k0_off67 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1662 : Index := Scalar.indexCast v4
  let c4224 : Index := 4224#32
  ![v1662.toNat, 4224]
def k0_off68 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1681 : Index := Scalar.indexCast v4
  let c4352_424 : Index := 4352#32
  ![v1681.toNat, 4352]
def k0_off69 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1692 : Index := Scalar.indexCast v4
  let c4480 : Index := 4480#32
  ![v1692.toNat, 4480]
def k0_off70 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1711 : Index := Scalar.indexCast v4
  let c4608_432 : Index := 4608#32
  ![v1711.toNat, 4608]
def k0_off71 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1722 : Index := Scalar.indexCast v4
  let c4736 : Index := 4736#32
  ![v1722.toNat, 4736]
def k0_off72 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1741 : Index := Scalar.indexCast v4
  let c4864_440 : Index := 4864#32
  ![v1741.toNat, 4864]
def k0_off73 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1752 : Index := Scalar.indexCast v4
  let c4992 : Index := 4992#32
  ![v1752.toNat, 4992]
def k0_off74 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1771 : Index := Scalar.indexCast v4
  let c5120_448 : Index := 5120#32
  ![v1771.toNat, 5120]
def k0_off75 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1782 : Index := Scalar.indexCast v4
  let c5248 : Index := 5248#32
  ![v1782.toNat, 5248]
def k0_off76 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1801 : Index := Scalar.indexCast v4
  let c5376_456 : Index := 5376#32
  ![v1801.toNat, 5376]
def k0_off77 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1812 : Index := Scalar.indexCast v4
  let c5504 : Index := 5504#32
  ![v1812.toNat, 5504]
def k0_off78 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1831 : Index := Scalar.indexCast v4
  let c5632_464 : Index := 5632#32
  ![v1831.toNat, 5632]
def k0_off79 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1842 : Index := Scalar.indexCast v4
  let c5760 : Index := 5760#32
  ![v1842.toNat, 5760]
def k0_off80 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1861 : Index := Scalar.indexCast v4
  let c5888_472 : Index := 5888#32
  ![v1861.toNat, 5888]
def k0_off81 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1872 : Index := Scalar.indexCast v4
  let c6016 : Index := 6016#32
  ![v1872.toNat, 6016]
def k0_off82 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1891 : Index := Scalar.indexCast v4
  let c6144_480 : Index := 6144#32
  ![v1891.toNat, 6144]
def k0_off83 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1902 : Index := Scalar.indexCast v4
  let c6272 : Index := 6272#32
  ![v1902.toNat, 6272]
def k0_off84 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1921 : Index := Scalar.indexCast v4
  let c6400_488 : Index := 6400#32
  ![v1921.toNat, 6400]
def k0_off85 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1932 : Index := Scalar.indexCast v4
  let c6528 : Index := 6528#32
  ![v1932.toNat, 6528]
def k0_off86 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1951 : Index := Scalar.indexCast v4
  let c6656_496 : Index := 6656#32
  ![v1951.toNat, 6656]
def k0_off87 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1962 : Index := Scalar.indexCast v4
  let c6784 : Index := 6784#32
  ![v1962.toNat, 6784]
def k0_off88 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1981 : Index := Scalar.indexCast v4
  let c6912_504 : Index := 6912#32
  ![v1981.toNat, 6912]
def k0_off89 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v1992 : Index := Scalar.indexCast v4
  let c7040 : Index := 7040#32
  ![v1992.toNat, 7040]
def k0_off90 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2011 : Index := Scalar.indexCast v4
  let c7168_512 : Index := 7168#32
  ![v2011.toNat, 7168]
def k0_off91 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2022 : Index := Scalar.indexCast v4
  let c7296 : Index := 7296#32
  ![v2022.toNat, 7296]
def k0_off92 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2041 : Index := Scalar.indexCast v4
  let c7424_520 : Index := 7424#32
  ![v2041.toNat, 7424]
def k0_off93 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2052 : Index := Scalar.indexCast v4
  let c7552 : Index := 7552#32
  ![v2052.toNat, 7552]
def k0_off94 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2071 : Index := Scalar.indexCast v4
  let c7680_528 : Index := 7680#32
  ![v2071.toNat, 7680]
def k0_off95 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2082 : Index := Scalar.indexCast v4
  let c7808 : Index := 7808#32
  ![v2082.toNat, 7808]
def k0_off96 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2101 : Index := Scalar.indexCast v4
  let c7936_536 : Index := 7936#32
  ![v2101.toNat, 7936]
def k0_off97 (k0_t1 : Fin k0_t1_loop.trips) : Fin 2 → Nat :=
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v1 : BitVec 32 := Scalar.muli arg8 c1_i32_1
  let v2 : BitVec 32 := Scalar.addi c0_i32_2 v1
  let c32_i32 : BitVec 32 := 32#32
  let v3 : BitVec 32 := Scalar.muli v2 c32_i32
  let v4 : BitVec 32 := v3
  let v2112 : Index := Scalar.indexCast v4
  let c8064 : Index := 8064#32
  ![v2112.toNat, 8064]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S11x1024x8192 : Shape := ⟨3, ![11, 1024, 8192]⟩
abbrev S8192 : Shape := ⟨1, ![8192]⟩
abbrev S11264x8192 : Shape := ⟨2, ![11264, 8192]⟩
abbrev S1x8192 : Shape := ⟨2, ![1, 8192]⟩
abbrev S11264x64 : Shape := ⟨2, ![11264, 64]⟩
abbrev S11264 : Shape := ⟨1, ![11264]⟩
abbrev S11264x1 : Shape := ⟨2, ![11264, 1]⟩
abbrev S11264x64x128 : Shape := ⟨3, ![11264, 64, 128]⟩
abbrev S11264x64x256 : Shape := ⟨3, ![11264, 64, 256]⟩
abbrev S11264x64x1 : Shape := ⟨3, ![11264, 64, 1]⟩

abbrev nBuf : Space → Nat
  | .hbm => 9
  | .vmem => 6
  | .smem => 0
  | _ => 0

abbrev bufTy : (tb : Table) → Fin (tcTables nBuf tb) → BufTy
  | .hbm, ⟨0, _⟩ => ⟨S11x1024x8192, .bf16⟩
  | .hbm, ⟨1, _⟩ => ⟨S11x1024x8192, .bf16⟩
  | .hbm, ⟨2, _⟩ => ⟨S8192, .bf16⟩
  | .hbm, ⟨3, _⟩ => ⟨S11264x8192, .bf16⟩
  | .hbm, ⟨4, _⟩ => ⟨S11264x8192, .bf16⟩
  | .hbm, ⟨5, _⟩ => ⟨S1x8192, .bf16⟩
  | .hbm, ⟨6, _⟩ => ⟨S11264x8192, .bf16⟩
  | .hbm, ⟨7, _⟩ => ⟨S11264x8192, .fp8e4m3⟩
  | .hbm, ⟨8, _⟩ => ⟨S11264x64, .f32⟩
  | .local _ .vmem, ⟨0, _⟩ => ⟨S11264x8192, .bf16⟩
  | .local _ .vmem, ⟨1, _⟩ => ⟨S11264x8192, .bf16⟩
  | .local _ .vmem, ⟨2, _⟩ => ⟨S1x8192, .bf16⟩
  | .local _ .vmem, ⟨3, _⟩ => ⟨S11264x8192, .bf16⟩
  | .local _ .vmem, ⟨4, _⟩ => ⟨S11264x8192, .fp8e4m3⟩
  | .local _ .vmem, ⟨5, _⟩ => ⟨S11264x64, .f32⟩
  | _, _ => ⟨S11x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S11264x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11264x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11264x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11264x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11264x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelBody.lean ====
/-
  The kernel's body run once at symbolic operands, and the frame of the program from it. The loop over the
  row groups goes by the generated invariant `Gen.loopInv_k0_t1`: after it each written buffer holds the pieces of
  the trips over what it held. The frame forgets the three outputs.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The scratch, whole. -/
abbrev scM : Memref sig .tc .vmem S32x128 .f32 := Memref.whole cc0_scratch0

/-- The pieces the four trips leave in the three outputs and in the scratch, last first. -/
abbrev pcs (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .f32) (harg3 : arg3.IsWhole) (arg4 : Memref sig .tc .vmem S128x8192 .bf16) (harg4 : arg4.IsWhole) (arg5 : Memref sig .tc .vmem S128x8192 .fp8e4m3) (harg5 : arg5.IsWhole) (arg6 : Memref sig .tc .vmem S128x64 .f32) (harg6 : arg6.IsWhole)
    (X1 : BufTy.Contents (Elt F) arg1.view.ty) (X2 : BufTy.Contents (Elt F) arg2.view.ty) (X3 : BufTy.Contents (Elt F) arg3.view.ty)
    (G4 : BufTy.Contents (Elt F) arg4.view.ty) (G5 : BufTy.Contents (Elt F) arg5.view.ty) (G6 : BufTy.Contents (Elt F) arg6.view.ty) (G7 : BufTy.Contents (Elt F) scM.view.ty) :=
  pb_k0_t1 (F := F) Variants.none c none i arg1 harg1 arg2 harg2 arg3 harg3 arg4 harg4 arg5 harg5 arg6 harg6 scM (Memref.isWhole_whole _) X1 X2 X3 G4 G5 G6 G7 k0_t1_loop.trips

/-- The body's triple: the inputs whole at any contents, handed back; the outputs and the scratch at any contents,
    handed back with the four trips' pieces written over them. -/
theorem kernelRun (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .f32) (harg3 : arg3.IsWhole) (arg4 : Memref sig .tc .vmem S128x8192 .bf16) (harg4 : arg4.IsWhole) (arg5 : Memref sig .tc .vmem S128x8192 .fp8e4m3) (harg5 : arg5.IsWhole) (arg6 : Memref sig .tc .vmem S128x64 .f32) (harg6 : arg6.IsWhole)
    (X1 : BufTy.Contents (Elt F) arg1.view.ty) (X2 : BufTy.Contents (Elt F) arg2.view.ty) (X3 : BufTy.Contents (Elt F) arg3.view.ty)
    (G4 : BufTy.Contents (Elt F) arg4.view.ty) (G5 : BufTy.Contents (Elt F) arg5.view.ty) (G6 : BufTy.Contents (Elt F) arg6.view.ty) (G7 : BufTy.Contents (Elt F) scM.view.ty)
    (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
        ∗ (arg4.view.loc (c : Thread nD τ) ↦[arg4.view.set]{fullShare} G4) ∗ (arg5.view.loc (c : Thread nD τ) ↦[arg5.view.set]{fullShare} G5) ∗ (arg6.view.loc (c : Thread nD τ) ↦[arg6.view.set]{fullShare} G6) ∗ (scM.view.loc (c : Thread nD τ) ↦[scM.view.set]{fullShare} G7)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
            ∗ (arg4.view.loc (c : Thread nD τ) ↦[arg4.view.set]{fullShare} arg4.view.writes (Elt F) G4 (pcs c i arg1 harg1 arg2 harg2 arg3 harg3 arg4 harg4 arg5 harg5 arg6 harg6 X1 X2 X3 G4 G5 G6 G7).1)
            ∗ (arg5.view.loc (c : Thread nD τ) ↦[arg5.view.set]{fullShare} arg5.view.writes (Elt F) G5 (pcs c i arg1 harg1 arg2 harg2 arg3 harg3 arg4 harg4 arg5 harg5 arg6 harg6 X1 X2 X3 G4 G5 G6 G7).2.1)
            ∗ (arg6.view.loc (c : Thread nD τ) ↦[arg6.view.set]{fullShare} arg6.view.writes (Elt F) G6 (pcs c i arg1 harg1 arg2 harg2 arg3 harg3 arg4 harg4 arg5 harg5 arg6 harg6 X1 X2 X3 G4 G5 G6 G7).2.2.1)
            ∗ (∃ f, scM.view.loc (c : Thread nD τ) ↦[scM.view.set]{fullShare} f)) -∗ K ⟨⟩))
      ⊢ wp frame (wpE (defs₀ (F := F)) Variants.none c none) Set.univ
          (cc0__body i arg1 harg1 arg2 harg2 arg3 harg3 arg4 harg4 arg5 harg5 arg6 harg6 scM (Memref.isWhole_whole _)) K := by
  simp only [cc0__body_eq_skeleton]; unfold cc0__body_skel
  iintro ⟨H1, H2, H3, H4, H5, H6, H7, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  iexists _; iexact H7

/-- The invariant between the points: the scratch at some contents and the generator register at some state. -/
theorem PhiA0_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-! ## The frame, the outputs forgotten -/

/-- The outputs are forgotten: nothing in the frame reads what the kernel leaves there. -/
def forgets0 : Fin 6 → Bool := ![false, false, false, true, true, true]

/-- The proof data of the frame on core `c`: an input's buffer holds its block after the body, an output's is unnamed. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
  Φ _ := Pipeline.ΦA spec0 c
  q _ := fullShare
  owed _ := 0

theorem fA_eq (c : Dev nD) (w : Fin cfg0.W) : (fdats m 0 c).A w = V m c (Pipeline.arrRef spec0 w) := by dsimp only [fdats]
theorem fafter0_0 (c : Dev nD) (t : Fin cfg0.N) : (fdats m 0 c).after 0 t = iblk m c 0 t := by dsimp only [fdats]
theorem fafter0_1 (c : Dev nD) (t : Fin cfg0.N) : (fdats m 0 c).after 1 t = iblk m c 1 t := by dsimp only [fdats]
theorem fafter0_2 (c : Dev nD) (t : Fin cfg0.N) : (fdats m 0 c).after 2 t = iblk m c 2 t := by dsimp only [fdats]
theorem fbefore0_0 (c : Dev nD) (t : Fin cfg0.N) (d) : (fdats m 0 c).before 0 t d = iblk m c 0 t :=
  before0_0_of m (fdats m 0 c) (fA_eq m c 0) (fafter0_0 m c) t d
theorem fbefore0_1 (c : Dev nD) (t : Fin cfg0.N) (d) : (fdats m 0 c).before 1 t d = iblk m c 1 t :=
  before0_1_of m (fdats m 0 c) (fA_eq m c 1) (fafter0_1 m c) t d
theorem fbefore0_2 (c : Dev nD) (t : Fin cfg0.N) (d) : (fdats m 0 c).before 2 t d = iblk m c 2 t :=
  before0_2_of m (fdats m 0 c) (fA_eq m c 2) (fafter0_2 m c) t d

/-- What the body is called with at point `t`, -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d))
/-- and what it returns. -/
def fbodyPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ (∃ d, owns (c : Thread nD τ) (st0_3 t) fullShare d)
    ∗ (∃ d, owns (c : Thread nD τ) (st0_4 t) fullShare d)
    ∗ (∃ d, owns (c : Thread nD τ) (st0_5 t) fullShare d))

/-- The body at any point: the invariant opened to the scratch, the run, the invariant closed. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore0_0, fbefore0_1, fbefore0_2]
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, PhiA0_eq,
    fafter0_0, fafter0_1, fafter0_2]
  unfold owns
  iintro ⟨⟨⟨%ds, %fs, -, HS⟩, Hg⟩, Ho, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩⟩
  iapply (kernelRun c (grid0.coords t) _ _ _ _ _ _ _ _ _ _ _ _ f0 f1 f2 f3 f4 f5 fs _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, ⟨%fs', HS⟩⟩
  isplitl [HS Hg]
  · isplitl [HS]
    · iexists _, _; isplitr; swap; · iexact HS
      ipureintro; rfl
    iexact Hg
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _, _; isplitr; swap; · iexact H3
    ipureintro; rfl
  isplitl [H4]
  · iexists _, _; isplitr; swap; · iexact H4
    ipureintro; rfl
  iexists _, _; isplitr; swap; · iexact H5
  ipureintro; rfl

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem fbody_obligation (c : Dev nD) :
    BodyObligation (fdats (F := F) m 0 c) (defs₀ (F := F)) Variants.none () Set.univ forgets0 := fun t => by
  rw [bigSep_W0, bigSep_W0, defs₀_row]
  exact triple_restated (fsound_body m c t) rfl .rfl fun _ => .rfl

set_option backward.isDefEq.respectTransparency.types false in
/-- The launch: every fair execution terminates, the buffers no window stages end as the region found them, every counter ends at zero. -/
theorem frun_main :
    θ_run defs (onTc (τ := τ) (main (F := F))) (s₀ m ρ)
      (fun r => Pipeline.RDat.FramePost (cfgs 0) (fun c => (fdats m 0 c).toRForget forgets0) (V m) r ∧ r.2.sem = fun _ => 0) :=
  Pipeline.θ_run_frame_forget (Q' := _) cfgs (fdats m) (0 : Fin 1) launch0 defs₀ Variants.none forgets0 m ρ main
    (hbody := fun c => (fbody_obligation m c).loose) (hshare := fun c => (fdats m 0 c).share_full fun _ => rfl)
    (howed := fun _ _ => rfl) (V := V m) (hmain := hmain m Variants.none) (hA := fA_eq m) (hΦ := fun _ _ => rfl)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r (h : _ ∧ _) => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (frun_main m ρ)

end Cert.Kernel.Hand

end
-- ==== Proof.KernelIdealBody.lean ====
/-
  The kernel's body run once at symbolic operands, and the frame of the program from it. The loop over the
  row groups goes by the generated invariant `Gen.loopInv_k0_t1`: after it each written buffer holds the pieces of
  the trips over what it held. The frame forgets the three outputs.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The scratch, whole. -/
abbrev scM : Memref sig .tc .vmem S32x128 .f32 := Memref.whole cc0_scratch0

/-- The pieces the four trips leave in the three outputs and in the scratch, last first. -/
abbrev pcs (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .f32) (harg3 : arg3.IsWhole) (arg4 : Memref sig .tc .vmem S128x8192 .bf16) (harg4 : arg4.IsWhole) (arg5 : Memref sig .tc .vmem S128x8192 .fp8e4m3) (harg5 : arg5.IsWhole) (arg6 : Memref sig .tc .vmem S128x64 .f32) (harg6 : arg6.IsWhole)
    (X1 : BufTy.Contents (Elt F) arg1.view.ty) (X2 : BufTy.Contents (Elt F) arg2.view.ty) (X3 : BufTy.Contents (Elt F) arg3.view.ty)
    (G4 : BufTy.Contents (Elt F) arg4.view.ty) (G5 : BufTy.Contents (Elt F) arg5.view.ty) (G6 : BufTy.Contents (Elt F) arg6.view.ty) (G7 : BufTy.Contents (Elt F) scM.view.ty) :=
  pb_k0_t1 (F := F) Variants.none c none i arg1 harg1 arg2 harg2 arg3 harg3 arg4 harg4 arg5 harg5 arg6 harg6 scM (Memref.isWhole_whole _) X1 X2 X3 G4 G5 G6 G7 k0_t1_loop.trips

/-- The body's triple: the inputs whole at any contents, handed back; the outputs and the scratch at any contents,
    handed back with the four trips' pieces written over them. -/
theorem kernelRun (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .f32) (harg3 : arg3.IsWhole) (arg4 : Memref sig .tc .vmem S128x8192 .bf16) (harg4 : arg4.IsWhole) (arg5 : Memref sig .tc .vmem S128x8192 .fp8e4m3) (harg5 : arg5.IsWhole) (arg6 : Memref sig .tc .vmem S128x64 .f32) (harg6 : arg6.IsWhole)
    (X1 : BufTy.Contents (Elt F) arg1.view.ty) (X2 : BufTy.Contents (Elt F) arg2.view.ty) (X3 : BufTy.Contents (Elt F) arg3.view.ty)
    (G4 : BufTy.Contents (Elt F) arg4.view.ty) (G5 : BufTy.Contents (Elt F) arg5.view.ty) (G6 : BufTy.Contents (Elt F) arg6.view.ty) (G7 : BufTy.Contents (Elt F) scM.view.ty)
    (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
        ∗ (arg4.view.loc (c : Thread nD τ) ↦[arg4.view.set]{fullShare} G4) ∗ (arg5.view.loc (c : Thread nD τ) ↦[arg5.view.set]{fullShare} G5) ∗ (arg6.view.loc (c : Thread nD τ) ↦[arg6.view.set]{fullShare} G6) ∗ (scM.view.loc (c : Thread nD τ) ↦[scM.view.set]{fullShare} G7)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
            ∗ (arg4.view.loc (c : Thread nD τ) ↦[arg4.view.set]{fullShare} arg4.view.writes (Elt F) G4 (pcs c i arg1 harg1 arg2 harg2 arg3 harg3 arg4 harg4 arg5 harg5 arg6 harg6 X1 X2 X3 G4 G5 G6 G7).1)
            ∗ (arg5.view.loc (c : Thread nD τ) ↦[arg5.view.set]{fullShare} arg5.view.writes (Elt F) G5 (pcs c i arg1 harg1 arg2 harg2 arg3 harg3 arg4 harg4 arg5 harg5 arg6 harg6 X1 X2 X3 G4 G5 G6 G7).2.1)
            ∗ (arg6.view.loc (c : Thread nD τ) ↦[arg6.view.set]{fullShare} arg6.view.writes (Elt F) G6 (pcs c i arg1 harg1 arg2 harg2 arg3 harg3 arg4 harg4 arg5 harg5 arg6 harg6 X1 X2 X3 G4 G5 G6 G7).2.2.1)
            ∗ (∃ f, scM.view.loc (c : Thread nD τ) ↦[scM.view.set]{fullShare} f)) -∗ K ⟨⟩))
      ⊢ wp frame (wpE (defs₀ (F := F)) Variants.none c none) Set.univ
          (cc0__body i arg1 harg1 arg2 harg2 arg3 harg3 arg4 harg4 arg5 harg5 arg6 harg6 scM (Memref.isWhole_whole _)) K := by
  simp only [cc0__body_eq_skeleton]; unfold cc0__body_skel
  iintro ⟨H1, H2, H3, H4, H5, H6, H7, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  iexists _; iexact H7

/-- The invariant between the points: the scratch at some contents and the generator register at some state. -/
theorem PhiA0_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-! ## The frame, the outputs forgotten -/

/-- The outputs are forgotten: nothing in the frame reads what the kernel leaves there. -/
def forgets0 : Fin 6 → Bool := ![false, false, false, true, true, true]

/-- The proof data of the frame on core `c`: an input's buffer holds its block after the body, an output's is unnamed. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
  Φ _ := Pipeline.ΦA spec0 c
  q _ := fullShare
  owed _ := 0

theorem fA_eq (c : Dev nD) (w : Fin cfg0.W) : (fdats m 0 c).A w = V m c (Pipeline.arrRef spec0 w) := by dsimp only [fdats]
theorem fafter0_0 (c : Dev nD) (t : Fin cfg0.N) : (fdats m 0 c).after 0 t = iblk m c 0 t := by dsimp only [fdats]
theorem fafter0_1 (c : Dev nD) (t : Fin cfg0.N) : (fdats m 0 c).after 1 t = iblk m c 1 t := by dsimp only [fdats]
theorem fafter0_2 (c : Dev nD) (t : Fin cfg0.N) : (fdats m 0 c).after 2 t = iblk m c 2 t := by dsimp only [fdats]
theorem fbefore0_0 (c : Dev nD) (t : Fin cfg0.N) (d) : (fdats m 0 c).before 0 t d = iblk m c 0 t :=
  before0_0_of m (fdats m 0 c) (fA_eq m c 0) (fafter0_0 m c) t d
theorem fbefore0_1 (c : Dev nD) (t : Fin cfg0.N) (d) : (fdats m 0 c).before 1 t d = iblk m c 1 t :=
  before0_1_of m (fdats m 0 c) (fA_eq m c 1) (fafter0_1 m c) t d
theorem fbefore0_2 (c : Dev nD) (t : Fin cfg0.N) (d) : (fdats m 0 c).before 2 t d = iblk m c 2 t :=
  before0_2_of m (fdats m 0 c) (fA_eq m c 2) (fafter0_2 m c) t d

/-- What the body is called with at point `t`, -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare d)
    ∗ (∃ d, owns (c : Thread nD τ) (st0_4 t) fullShare d)
    ∗ (∃ d, owns (c : Thread nD τ) (st0_5 t) fullShare d))
/-- and what it returns. -/
def fbodyPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ (∃ d, owns (c : Thread nD τ) (st0_3 t) fullShare d)
    ∗ (∃ d, owns (c : Thread nD τ) (st0_4 t) fullShare d)
    ∗ (∃ d, owns (c : Thread nD τ) (st0_5 t) fullShare d))

/-- The body at any point: the invariant opened to the scratch, the run, the invariant closed. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore0_0, fbefore0_1, fbefore0_2]
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, PhiA0_eq,
    fafter0_0, fafter0_1, fafter0_2]
  unfold owns
  iintro ⟨⟨⟨%ds, %fs, -, HS⟩, Hg⟩, Ho, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩⟩
  iapply (kernelRun c (grid0.coords t) _ _ _ _ _ _ _ _ _ _ _ _ f0 f1 f2 f3 f4 f5 fs _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, ⟨%fs', HS⟩⟩
  isplitl [HS Hg]
  · isplitl [HS]
    · iexists _, _; isplitr; swap; · iexact HS
      ipureintro; rfl
    iexact Hg
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _, _; isplitr; swap; · iexact H3
    ipureintro; rfl
  isplitl [H4]
  · iexists _, _; isplitr; swap; · iexact H4
    ipureintro; rfl
  iexists _, _; isplitr; swap; · iexact H5
  ipureintro; rfl

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem fbody_obligation (c : Dev nD) :
    BodyObligation (fdats (F := F) m 0 c) (defs₀ (F := F)) Variants.none () Set.univ forgets0 := fun t => by
  rw [bigSep_W0, bigSep_W0, defs₀_row]
  exact triple_restated (fsound_body m c t) rfl .rfl fun _ => .rfl

set_option backward.isDefEq.respectTransparency.types false in
/-- The launch: every fair execution terminates, the buffers no window stages end as the region found them, every counter ends at zero. -/
theorem frun_main :
    θ_run defs (onTc (τ := τ) (main (F := F))) (s₀ m ρ)
      (fun r => Pipeline.RDat.FramePost (cfgs 0) (fun c => (fdats m 0 c).toRForget forgets0) (V m) r ∧ r.2.sem = fun _ => 0) :=
  Pipeline.θ_run_frame_forget (Q' := _) cfgs (fdats m) (0 : Fin 1) launch0 defs₀ Variants.none forgets0 m ρ main
    (hbody := fun c => (fbody_obligation m c).loose) (hshare := fun c => (fdats m 0 c).share_full fun _ => rfl)
    (howed := fun _ _ => rfl) (V := V m) (hmain := hmain m Variants.none) (hA := fA_eq m) (hΦ := fun _ _ => rfl)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r (h : _ ∧ _) => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (frun_main m ρ)

end Cert.KernelIdeal.Hand

end
-- ==== Proof.Offsets.lean ====
/-
  The offsets of the loop's stores and loads as numbers: trip `k` works on the rows from `32 k` on, and the column
  of each access is fixed.
-/
module

public import proofs.«01_k».proof.Proof.Gen.KernelIdeal.Loops

@[expose] public section

set_option maxRecDepth 16384

namespace Cert.KernelIdeal.Hand

open Cert.KernelIdeal

theorem off1 (k : Fin k0_t1_loop.trips) : k0_off1 k = ![32 * k.val, 0] := by revert k; decide +kernel
theorem off2 (k : Fin k0_t1_loop.trips) : k0_off2 k = ![32 * k.val, 256] := by revert k; decide +kernel
theorem off3 (k : Fin k0_t1_loop.trips) : k0_off3 k = ![32 * k.val, 512] := by revert k; decide +kernel
theorem off4 (k : Fin k0_t1_loop.trips) : k0_off4 k = ![32 * k.val, 768] := by revert k; decide +kernel
theorem off5 (k : Fin k0_t1_loop.trips) : k0_off5 k = ![32 * k.val, 1024] := by revert k; decide +kernel
theorem off6 (k : Fin k0_t1_loop.trips) : k0_off6 k = ![32 * k.val, 1280] := by revert k; decide +kernel
theorem off7 (k : Fin k0_t1_loop.trips) : k0_off7 k = ![32 * k.val, 1536] := by revert k; decide +kernel
theorem off8 (k : Fin k0_t1_loop.trips) : k0_off8 k = ![32 * k.val, 1792] := by revert k; decide +kernel
theorem off9 (k : Fin k0_t1_loop.trips) : k0_off9 k = ![32 * k.val, 2048] := by revert k; decide +kernel
theorem off10 (k : Fin k0_t1_loop.trips) : k0_off10 k = ![32 * k.val, 2304] := by revert k; decide +kernel
theorem off11 (k : Fin k0_t1_loop.trips) : k0_off11 k = ![32 * k.val, 2560] := by revert k; decide +kernel
theorem off12 (k : Fin k0_t1_loop.trips) : k0_off12 k = ![32 * k.val, 2816] := by revert k; decide +kernel
theorem off13 (k : Fin k0_t1_loop.trips) : k0_off13 k = ![32 * k.val, 3072] := by revert k; decide +kernel
theorem off14 (k : Fin k0_t1_loop.trips) : k0_off14 k = ![32 * k.val, 3328] := by revert k; decide +kernel
theorem off15 (k : Fin k0_t1_loop.trips) : k0_off15 k = ![32 * k.val, 3584] := by revert k; decide +kernel
theorem off16 (k : Fin k0_t1_loop.trips) : k0_off16 k = ![32 * k.val, 3840] := by revert k; decide +kernel
theorem off17 (k : Fin k0_t1_loop.trips) : k0_off17 k = ![32 * k.val, 4096] := by revert k; decide +kernel
theorem off18 (k : Fin k0_t1_loop.trips) : k0_off18 k = ![32 * k.val, 4352] := by revert k; decide +kernel
theorem off19 (k : Fin k0_t1_loop.trips) : k0_off19 k = ![32 * k.val, 4608] := by revert k; decide +kernel
theorem off20 (k : Fin k0_t1_loop.trips) : k0_off20 k = ![32 * k.val, 4864] := by revert k; decide +kernel
theorem off21 (k : Fin k0_t1_loop.trips) : k0_off21 k = ![32 * k.val, 5120] := by revert k; decide +kernel
theorem off22 (k : Fin k0_t1_loop.trips) : k0_off22 k = ![32 * k.val, 5376] := by revert k; decide +kernel
theorem off23 (k : Fin k0_t1_loop.trips) : k0_off23 k = ![32 * k.val, 5632] := by revert k; decide +kernel
theorem off24 (k : Fin k0_t1_loop.trips) : k0_off24 k = ![32 * k.val, 5888] := by revert k; decide +kernel
theorem off25 (k : Fin k0_t1_loop.trips) : k0_off25 k = ![32 * k.val, 6144] := by revert k; decide +kernel
theorem off26 (k : Fin k0_t1_loop.trips) : k0_off26 k = ![32 * k.val, 6400] := by revert k; decide +kernel
theorem off27 (k : Fin k0_t1_loop.trips) : k0_off27 k = ![32 * k.val, 6656] := by revert k; decide +kernel
theorem off28 (k : Fin k0_t1_loop.trips) : k0_off28 k = ![32 * k.val, 6912] := by revert k; decide +kernel
theorem off29 (k : Fin k0_t1_loop.trips) : k0_off29 k = ![32 * k.val, 7168] := by revert k; decide +kernel
theorem off30 (k : Fin k0_t1_loop.trips) : k0_off30 k = ![32 * k.val, 7424] := by revert k; decide +kernel
theorem off31 (k : Fin k0_t1_loop.trips) : k0_off31 k = ![32 * k.val, 7680] := by revert k; decide +kernel
theorem off32 (k : Fin k0_t1_loop.trips) : k0_off32 k = ![32 * k.val, 7936] := by revert k; decide +kernel
theorem off33 (k : Fin k0_t1_loop.trips) : k0_off33 k = ![32 * k.val, 0] := by revert k; decide +kernel
theorem off34 (k : Fin k0_t1_loop.trips) : k0_off34 k = ![32 * k.val, 0] := by revert k; decide +kernel
theorem off35 (k : Fin k0_t1_loop.trips) : k0_off35 k = ![32 * k.val, 128] := by revert k; decide +kernel
theorem off36 (k : Fin k0_t1_loop.trips) : k0_off36 k = ![32 * k.val, 256] := by revert k; decide +kernel
theorem off37 (k : Fin k0_t1_loop.trips) : k0_off37 k = ![32 * k.val, 384] := by revert k; decide +kernel
theorem off38 (k : Fin k0_t1_loop.trips) : k0_off38 k = ![32 * k.val, 512] := by revert k; decide +kernel
theorem off39 (k : Fin k0_t1_loop.trips) : k0_off39 k = ![32 * k.val, 640] := by revert k; decide +kernel
theorem off40 (k : Fin k0_t1_loop.trips) : k0_off40 k = ![32 * k.val, 768] := by revert k; decide +kernel
theorem off41 (k : Fin k0_t1_loop.trips) : k0_off41 k = ![32 * k.val, 896] := by revert k; decide +kernel
theorem off42 (k : Fin k0_t1_loop.trips) : k0_off42 k = ![32 * k.val, 1024] := by revert k; decide +kernel
theorem off43 (k : Fin k0_t1_loop.trips) : k0_off43 k = ![32 * k.val, 1152] := by revert k; decide +kernel
theorem off44 (k : Fin k0_t1_loop.trips) : k0_off44 k = ![32 * k.val, 1280] := by revert k; decide +kernel
theorem off45 (k : Fin k0_t1_loop.trips) : k0_off45 k = ![32 * k.val, 1408] := by revert k; decide +kernel
theorem off46 (k : Fin k0_t1_loop.trips) : k0_off46 k = ![32 * k.val, 1536] := by revert k; decide +kernel
theorem off47 (k : Fin k0_t1_loop.trips) : k0_off47 k = ![32 * k.val, 1664] := by revert k; decide +kernel
theorem off48 (k : Fin k0_t1_loop.trips) : k0_off48 k = ![32 * k.val, 1792] := by revert k; decide +kernel
theorem off49 (k : Fin k0_t1_loop.trips) : k0_off49 k = ![32 * k.val, 1920] := by revert k; decide +kernel
theorem off50 (k : Fin k0_t1_loop.trips) : k0_off50 k = ![32 * k.val, 2048] := by revert k; decide +kernel
theorem off51 (k : Fin k0_t1_loop.trips) : k0_off51 k = ![32 * k.val, 2176] := by revert k; decide +kernel
theorem off52 (k : Fin k0_t1_loop.trips) : k0_off52 k = ![32 * k.val, 2304] := by revert k; decide +kernel
theorem off53 (k : Fin k0_t1_loop.trips) : k0_off53 k = ![32 * k.val, 2432] := by revert k; decide +kernel
theorem off54 (k : Fin k0_t1_loop.trips) : k0_off54 k = ![32 * k.val, 2560] := by revert k; decide +kernel
theorem off55 (k : Fin k0_t1_loop.trips) : k0_off55 k = ![32 * k.val, 2688] := by revert k; decide +kernel
theorem off56 (k : Fin k0_t1_loop.trips) : k0_off56 k = ![32 * k.val, 2816] := by revert k; decide +kernel
theorem off57 (k : Fin k0_t1_loop.trips) : k0_off57 k = ![32 * k.val, 2944] := by revert k; decide +kernel
theorem off58 (k : Fin k0_t1_loop.trips) : k0_off58 k = ![32 * k.val, 3072] := by revert k; decide +kernel
theorem off59 (k : Fin k0_t1_loop.trips) : k0_off59 k = ![32 * k.val, 3200] := by revert k; decide +kernel
theorem off60 (k : Fin k0_t1_loop.trips) : k0_off60 k = ![32 * k.val, 3328] := by revert k; decide +kernel
theorem off61 (k : Fin k0_t1_loop.trips) : k0_off61 k = ![32 * k.val, 3456] := by revert k; decide +kernel
theorem off62 (k : Fin k0_t1_loop.trips) : k0_off62 k = ![32 * k.val, 3584] := by revert k; decide +kernel
theorem off63 (k : Fin k0_t1_loop.trips) : k0_off63 k = ![32 * k.val, 3712] := by revert k; decide +kernel
theorem off64 (k : Fin k0_t1_loop.trips) : k0_off64 k = ![32 * k.val, 3840] := by revert k; decide +kernel
theorem off65 (k : Fin k0_t1_loop.trips) : k0_off65 k = ![32 * k.val, 3968] := by revert k; decide +kernel
theorem off66 (k : Fin k0_t1_loop.trips) : k0_off66 k = ![32 * k.val, 4096] := by revert k; decide +kernel
theorem off67 (k : Fin k0_t1_loop.trips) : k0_off67 k = ![32 * k.val, 4224] := by revert k; decide +kernel
theorem off68 (k : Fin k0_t1_loop.trips) : k0_off68 k = ![32 * k.val, 4352] := by revert k; decide +kernel
theorem off69 (k : Fin k0_t1_loop.trips) : k0_off69 k = ![32 * k.val, 4480] := by revert k; decide +kernel
theorem off70 (k : Fin k0_t1_loop.trips) : k0_off70 k = ![32 * k.val, 4608] := by revert k; decide +kernel
theorem off71 (k : Fin k0_t1_loop.trips) : k0_off71 k = ![32 * k.val, 4736] := by revert k; decide +kernel
theorem off72 (k : Fin k0_t1_loop.trips) : k0_off72 k = ![32 * k.val, 4864] := by revert k; decide +kernel
theorem off73 (k : Fin k0_t1_loop.trips) : k0_off73 k = ![32 * k.val, 4992] := by revert k; decide +kernel
theorem off74 (k : Fin k0_t1_loop.trips) : k0_off74 k = ![32 * k.val, 5120] := by revert k; decide +kernel
theorem off75 (k : Fin k0_t1_loop.trips) : k0_off75 k = ![32 * k.val, 5248] := by revert k; decide +kernel
theorem off76 (k : Fin k0_t1_loop.trips) : k0_off76 k = ![32 * k.val, 5376] := by revert k; decide +kernel
theorem off77 (k : Fin k0_t1_loop.trips) : k0_off77 k = ![32 * k.val, 5504] := by revert k; decide +kernel
theorem off78 (k : Fin k0_t1_loop.trips) : k0_off78 k = ![32 * k.val, 5632] := by revert k; decide +kernel
theorem off79 (k : Fin k0_t1_loop.trips) : k0_off79 k = ![32 * k.val, 5760] := by revert k; decide +kernel
theorem off80 (k : Fin k0_t1_loop.trips) : k0_off80 k = ![32 * k.val, 5888] := by revert k; decide +kernel
theorem off81 (k : Fin k0_t1_loop.trips) : k0_off81 k = ![32 * k.val, 6016] := by revert k; decide +kernel
theorem off82 (k : Fin k0_t1_loop.trips) : k0_off82 k = ![32 * k.val, 6144] := by revert k; decide +kernel
theorem off83 (k : Fin k0_t1_loop.trips) : k0_off83 k = ![32 * k.val, 6272] := by revert k; decide +kernel
theorem off84 (k : Fin k0_t1_loop.trips) : k0_off84 k = ![32 * k.val, 6400] := by revert k; decide +kernel
theorem off85 (k : Fin k0_t1_loop.trips) : k0_off85 k = ![32 * k.val, 6528] := by revert k; decide +kernel
theorem off86 (k : Fin k0_t1_loop.trips) : k0_off86 k = ![32 * k.val, 6656] := by revert k; decide +kernel
theorem off87 (k : Fin k0_t1_loop.trips) : k0_off87 k = ![32 * k.val, 6784] := by revert k; decide +kernel
theorem off88 (k : Fin k0_t1_loop.trips) : k0_off88 k = ![32 * k.val, 6912] := by revert k; decide +kernel
theorem off89 (k : Fin k0_t1_loop.trips) : k0_off89 k = ![32 * k.val, 7040] := by revert k; decide +kernel
theorem off90 (k : Fin k0_t1_loop.trips) : k0_off90 k = ![32 * k.val, 7168] := by revert k; decide +kernel
theorem off91 (k : Fin k0_t1_loop.trips) : k0_off91 k = ![32 * k.val, 7296] := by revert k; decide +kernel
theorem off92 (k : Fin k0_t1_loop.trips) : k0_off92 k = ![32 * k.val, 7424] := by revert k; decide +kernel
theorem off93 (k : Fin k0_t1_loop.trips) : k0_off93 k = ![32 * k.val, 7552] := by revert k; decide +kernel
theorem off94 (k : Fin k0_t1_loop.trips) : k0_off94 k = ![32 * k.val, 7680] := by revert k; decide +kernel
theorem off95 (k : Fin k0_t1_loop.trips) : k0_off95 k = ![32 * k.val, 7808] := by revert k; decide +kernel
theorem off96 (k : Fin k0_t1_loop.trips) : k0_off96 k = ![32 * k.val, 7936] := by revert k; decide +kernel
theorem off97 (k : Fin k0_t1_loop.trips) : k0_off97 k = ![32 * k.val, 8064] := by revert k; decide +kernel

end Cert.KernelIdeal.Hand
-- ==== Proof.Spec.lean ====
/-
  What one row of the kernel computes, over the extended reals: the row's sum of squares and reciprocal root, a
  block's largest magnitude and quotient, the exponent field by binary search, the scale, its inverse and the codes.
-/
module

public import Idealize.ShloMosaic.Lib.Pointwise
public import Idealize.ShloMosaic.PureOps.Ideal

@[expose] public section

noncomputable section

namespace Cert.Spec

open Idealize.ShloMosaic

/-- The reciprocal root of the row's mean square, as the kernel groups it: 128 lanes of 64 blocks. -/
def kRs (h : ℕ → EReal) : EReal :=
  Ideal.rsqrt ((∑ l : Fin 128, ∑ b ∈ Finset.range 64, h (128 * b + l.val) * h (128 * b + l.val)) * Ideal.ofBits .f32 0x39000000#32
    + Ideal.ofBits .f32 0x358637BD#32)

/-- The magnitude. -/
def mag (x : EReal) : EReal := max x (-x)

/-- The largest magnitude of `h * g` in block `b`. -/
def kAmax (h g : ℕ → EReal) (b : ℕ) : EReal :=
  Finset.univ.fold max (Ideal.ofBits .f32 0xFF800000#32) fun x : Fin 128 => mag (h (128 * b + x.val) * g (128 * b + x.val))

/-- Block `b`'s largest magnitude, normalised, over 448. -/
def kV (h g : ℕ → EReal) (b : ℕ) : EReal := kAmax h g b * kRs h * Ideal.ofBits .f32 0x3B124925#32

/-- One step of the binary search: the bit `c` kept when the power it names is at most `v`. -/
def kStep (v : EReal) (w c : BitVec 32) : BitVec 32 :=
  if Ideal.ofBits .f32 (IntOp.shli .vector (IntOp.addi w c) 23#32) ≤ v then IntOp.addi w c else w

/-- The exponent field of `v`, by the eight steps. -/
def kField (v : EReal) : BitVec 32 :=
  kStep v (kStep v (kStep v (kStep v (kStep v (kStep v (kStep v (kStep v 0#32 128#32) 64#32) 32#32) 16#32) 8#32) 4#32) 2#32) 1#32

/-- The exponent of the scale: 0 for a field that names no power, the field less 126 else. -/
def kExp (v : EReal) : BitVec 32 :=
  Scalar.select (IntOp.ori (IntOp.cmpi .eq (kField v) 0#32) (IntOp.cmpi .eq (kField v) 255#32)) 0#32 (IntOp.subi (kField v) 126#32)

/-- The power of two at that exponent. -/
def kScale (v : EReal) : EReal := Ideal.ofBits .f32 (IntOp.shli .vector (IntOp.addi (kExp v) 127#32) 23#32)

/-- The power of two at the opposite exponent. -/
def kInv (v : EReal) : EReal := Ideal.ofBits .f32 (IntOp.shli .vector (IntOp.subi 127#32 (kExp v)) 23#32)

/-- The factor of block `b`: the inverse of its scale by the row's reciprocal root. -/
def kT (h g : ℕ → EReal) (b : ℕ) : EReal := kInv (kV h g b) * kRs h

/-- The code at column `c` of block `b`. -/
def kCode (h g : ℕ → EReal) (b c : ℕ) : EReal :=
  min (Ideal.ofBits .f32 0x43E00000#32) (max (Ideal.ofBits .f32 0xC3E00000#32) (h c * g c * kT h g b))

end Cert.Spec
-- ==== Proof.TripBase.lean ====
/-
  The operands of one trip of the row-group loop: rows of the blocks read at numbers, the specification of what the
  trip writes as one function of the block's index, and the two list predicates (every piece agrees with a function;
  the pieces tile a row group column by column).
-/
module

public import proofs.«01_k».proof.Proof.Gen.KernelIdeal.Loops
public import proofs.«01_k».proof.Proof.Gen.KernelIdeal.Skeleton
public import proofs.«01_k».proof.Proof.Offsets
public import Idealize.ShloMosaic.Lib.Pointwise
public import Idealize.ShloMosaic.Lib.Pipeline.ReadBack
public import Idealize.ShloMosaic.Lib.Pipeline.Value
public import proofs.«01_k».proof.Proof.Spec

@[expose] public section

set_option maxRecDepth 16384

noncomputable section

namespace Cert.KernelIdeal.Hand

open Cert.KernelIdeal Cert.KernelIdeal.Gen
open Cert.Spec
open Idealize.ShloMosaic Idealize.ShloMosaic.TcCoe Idealize.ShloMosaic.Tactic

variable (arg1 arg2 : Memref sig .tc .vmem S128x8192 .bf16) (arg3 : Memref sig .tc .vmem S1x8192 .f32)
  (X1 : BufTy.Contents (Elt Ideal) arg1.view.ty) (X2 : BufTy.Contents (Elt Ideal) arg2.view.ty) (X3 : BufTy.Contents (Elt Ideal) arg3.view.ty)

/-- An array of the block's shape read at two numbers. -/
def rd2 (X : S128x8192.Idx → EReal) (r c : ℕ) : EReal := X (ix2 (Fin.ofNat 128 r) (Fin.ofNat 8192 c))

theorem rd2_eq (X : S128x8192.Idx → EReal) (a : Fin 128) (b : Fin 8192) : X (ix2 a b) = rd2 X a.val b.val := by
  simp [rd2]

variable (A1 A2 : S128x8192.Idx → EReal) (A3 : S1x8192.Idx → EReal)

/-- Row `r` of the sum of the two blocks. -/
def hAt (r : ℕ) : ℕ → EReal := fun c => rd2 A1 r c + rd2 A2 r c

/-- The weights, one row. -/
def gAt : ℕ → EReal := fun c => A3 (ix2 0 (Fin.ofNat 8192 c))

theorem gAt_eq (a : Fin 8192) : A3 (ix2 0 a) = gAt A3 a.val := by simp [gAt]

/-- The block of sums. -/
def hSpec : S128x8192.Idx → EReal := fun y => hAt A1 A2 (y 0).val (y 1).val

/-- The row group's largest magnitudes, one column to a block. -/
def aSpec (k : ℕ) : S32x128.Idx → EReal := fun y => kAmax (hAt A1 A2 (32 * k + (y 0).val)) (gAt A3) (y 1).val

/-- The block of codes. -/
def cSpec : S128x8192.Idx → EReal := fun y => kCode (hAt A1 A2 (y 0).val) (gAt A3) ((y 1).val / 128) (y 1).val

/-- The block of scales. -/
def sSpec : S128x64.Idx → EReal := fun y => kScale (kV (hAt A1 A2 (y 0).val) (gAt A3) (y 1).val)

theorem hSpec_ix (a : Fin 128) (b : Fin 8192) : hSpec A1 A2 (ix2 a b) = hAt A1 A2 a.val b.val := rfl

theorem aSpec_ix (k : ℕ) (a : Fin 32) (b : Fin 128) :
    aSpec A1 A2 A3 k (ix2 a b) = kAmax (hAt A1 A2 (32 * k + a.val)) (gAt A3) b.val := rfl

theorem cSpec_ix (a : Fin 128) (b : Fin 8192) : cSpec A1 A2 A3 (ix2 a b) = kCode (hAt A1 A2 a.val) (gAt A3) (b.val / 128) b.val := rfl

theorem sSpec_ix (a : Fin 128) (b : Fin 64) : sSpec A1 A2 A3 (ix2 a b) = kScale (kV (hAt A1 A2 a.val) (gAt A3) b.val) := rfl

/-- Pieces listed last first, the `n`-th of them holding the indices of which `C n` holds. -/
def Tiles {S : Shape} {e : EltTy} (C : ℕ → S.Idx → Prop) : ℕ → List (View.Piece (Elt Idealize.ShloMosaic.Ideal) S e) → Prop
  | 0, _ => True
  | _ + 1, [] => False
  | n + 1, p :: L => (∀ y, C n y → y ∈ p.1.set) ∧ Tiles C n L

theorem Tiles.cover {S : Shape} {e : EltTy} {C : ℕ → S.Idx → Prop} {y : S.Idx} {m : ℕ} (hy : C m y) :
    ∀ (n : ℕ) (L : List (View.Piece (Elt Idealize.ShloMosaic.Ideal) S e)), Tiles C n L → m < n → ∃ p ∈ L, y ∈ p.1.set
  | 0, _, _, h => absurd h (Nat.not_lt_zero _)
  | n + 1, [], h, _ => h.elim
  | n + 1, p :: L, h, hm => by
    rcases Nat.lt_succ_iff_lt_or_eq.mp hm with h' | rfl
    · obtain ⟨q, hq, hyq⟩ := Tiles.cover hy n L h.2 h'
      exact ⟨q, List.mem_cons_of_mem _ hq, hyq⟩
    · exact ⟨p, List.mem_cons_self, h.1 y hy⟩

theorem tiles_cons {S : Shape} {e : EltTy} {C : ℕ → S.Idx → Prop} {n : ℕ} {p : View.Piece (Elt Idealize.ShloMosaic.Ideal) S e} {L : List (View.Piece (Elt Idealize.ShloMosaic.Ideal) S e)}
    (hL : Tiles C n L) (h : ∀ y, C n y → y ∈ p.1.set) : Tiles C (n + 1) (p :: L) := ⟨h, hL⟩

/-- Column `n` of width `w` of the row group at row `R`. -/
def Col {a b : ℕ} (R w n : ℕ) (y : Shape.Idx ⟨2, ![a, b]⟩) : Prop :=
  R ≤ (y 0).val ∧ (y 0).val < R + 32 ∧ w * n ≤ (y 1).val ∧ (y 1).val < w * n + w

theorem mem_col {a b R w n : ℕ} {off size : Fin 2 → ℕ} (y : Shape.Idx ⟨2, ![a, b]⟩) (hy : Col R w n y)
    (ho : off = ![R, w * n]) (hs : size = ![32, w]) (i : Fin 2) : off i ≤ (y i).val ∧ (y i).val < off i + size i := by
  subst ho hs
  obtain ⟨h1, h2, h3, h4⟩ := hy
  fin_cases i
  · exact ⟨h1, h2⟩
  · exact ⟨h3, h4⟩

/-- A read back of pieces is a load of what they leave. -/
theorem readCov_eq_ld {κ : Kind} {sp : Space} {S : Shape} {e : EltTy} (v : View sig κ sp S e) (L : List (View.Piece (Elt Idealize.ShloMosaic.Ideal) S e)) (r : Rect S) :
    v.readCov L r.toLoadRect = View.ld (View.canon L) r := View.readCov_eq_canon' v L _

theorem absf_eq_mag (x : EReal) : FloatOps.absf (F := Idealize.ShloMosaic.Ideal) (φ := .f32) x = mag x := rfl

/-- One piece and the rest. -/
theorem piecesOf_cons {S : Shape} {e : EltTy} {G : S.Idx → Elt Idealize.ShloMosaic.Ideal e} {r : Rect S} {w : r.shape.Idx → Elt Idealize.ShloMosaic.Ideal e} {L : List (View.Piece (Elt Idealize.ShloMosaic.Ideal) S e)}
    (hL : View.PiecesOf G L) (h : ∀ x, w x = View.ld G r x) : View.PiecesOf G (⟨r, w⟩ :: L) := ⟨h, hL⟩

end Cert.KernelIdeal.Hand
-- ==== Proof.TripSums.lean ====
/-
  The first half of a trip: the reciprocal root of each row, the sums it stores and the largest magnitudes it keeps in
  the scratch, each read off the pieces the trip leaves.
-/
module

public import proofs.«01_k».proof.Proof.TripBase

@[expose] public section

set_option maxRecDepth 16384
set_option maxHeartbeats 1000000

noncomputable section

namespace Cert.KernelIdeal.Hand

open Cert.KernelIdeal Cert.KernelIdeal.Gen
open Cert.Spec
open Idealize.ShloMosaic Idealize.ShloMosaic.TcCoe Idealize.ShloMosaic.Tactic

variable (arg1 arg2 : Memref sig .tc .vmem S128x8192 .bf16) (arg3 : Memref sig .tc .vmem S1x8192 .f32)
  (arg4 : Memref sig .tc .vmem S128x8192 .bf16) (arg7 : Memref sig .tc .vmem S32x128 .f32)
  (X1 : BufTy.Contents (Elt Idealize.ShloMosaic.Ideal) arg1.view.ty) (X2 : BufTy.Contents (Elt Idealize.ShloMosaic.Ideal) arg2.view.ty) (X3 : BufTy.Contents (Elt Idealize.ShloMosaic.Ideal) arg3.view.ty)

/-- The reciprocal root of each row of the group. -/
theorem rs_at (k : Fin k0_t1_loop.trips) (p : Fin 32) :
    trip_k0_t1.sl.r_67 arg1 arg2 X1 X2 k (ix2 p 0) = kRs (hAt (View.read (Elt Idealize.ShloMosaic.Ideal) arg1.view X1) (View.read (Elt Idealize.ShloMosaic.Ideal) arg2.view X2) (32 * k.val + p.val)) := by
  pointwise [trip_k0_t1.sl.r_67]
  unfold_payloads
  pointwise [trip_k0_t1.sl.r, trip_k0_t1.sl.r_2, trip_k0_t1.sl.r_6, trip_k0_t1.sl.r_8, trip_k0_t1.sl.r_10, trip_k0_t1.sl.r_13, trip_k0_t1.sl.r_18, trip_k0_t1.sl.r_19, trip_k0_t1.sl.r_20, trip_k0_t1.sl.r_24, trip_k0_t1.sl.r_26, trip_k0_t1.sl.r_28, trip_k0_t1.sl.r_30, trip_k0_t1.sl.r_35, trip_k0_t1.sl.r_37, trip_k0_t1.sl.r_39, trip_k0_t1.sl.r_41, trip_k0_t1.sl.r_46, trip_k0_t1.sl.r_48, trip_k0_t1.sl.r_49, trip_k0_t1.sl.r_53, trip_k0_t1.sl.r_55, trip_k0_t1.sl.r_57, trip_k0_t1.sl.r_60, trip_k0_t1.sl.r_65, trip_k0_t1.sl.r_1, trip_k0_t1.sl.r_11, trip_k0_t1.sl.r_12, trip_k0_t1.sl.r_29, trip_k0_t1.sl.r_58, trip_k0_t1.sl.r_59, trip_k0_t1.sl.r_3, trip_k0_t1.sl.r_4, trip_k0_t1.sl.r_14, trip_k0_t1.sl.r_16, trip_k0_t1.sl.r_63, trip_k0_t1.sl.r_61, trip_k0_t1.sl.r_51, trip_k0_t1.sl.r_52, trip_k0_t1.sl.r_50, trip_k0_t1.sl.r_54, trip_k0_t1.sl.r_56, trip_k0_t1.sl.r_47, trip_k0_t1.sl.r_45, trip_k0_t1.sl.r_43, trip_k0_t1.sl.r_44, trip_k0_t1.sl.r_42, trip_k0_t1.sl.r_40, trip_k0_t1.sl.r_38, trip_k0_t1.sl.r_36, trip_k0_t1.sl.r_34, trip_k0_t1.sl.r_33, trip_k0_t1.sl.r_31, trip_k0_t1.sl.r_27, trip_k0_t1.sl.r_25, trip_k0_t1.sl.r_23, trip_k0_t1.sl.r_22, trip_k0_t1.sl.r_21, trip_k0_t1.sl.r_17, trip_k0_t1.sl.r_5, trip_k0_t1.sl.r_7, trip_k0_t1.sl.r_9, trip_k0_t1.sl.r_15, trip_k0_t1.sl.r_62, trip_k0_t1.sl.r_64, trip_k0_t1.sl.r_66, trip_k0_t1.sl.r_32]
  unfold_payloads
  pointwise [View.readAt_eq_ld, off1, off2, off3, off4, off5, off6, off7, off8, off9, off10, off11, off12, off13, off14, off15, off16, off17, off18, off19, off20, off21, off22, off23, off24, off25, off26, off27, off28, off29, off30, off31, off32, off33]
  simp only [rd2_eq]
  generalize View.read (Elt Idealize.ShloMosaic.Ideal) arg1.view X1 = A1
  generalize View.read (Elt Idealize.ShloMosaic.Ideal) arg2.view X2 = A2
  simp only [kRs, hAt, Finset.sum_range_succ, Finset.sum_range_zero, zero_add]
  simp only [← Nat.add_assoc, Nat.reduceAdd, Nat.reduceMul, Nat.mul_zero, Nat.zero_add]

/-- The sums stored are the sums of the two blocks. -/
theorem h_pieces (k : Fin k0_t1_loop.trips) : View.PiecesOf (hSpec (View.read (Elt Idealize.ShloMosaic.Ideal) arg1.view X1) (View.read (Elt Idealize.ShloMosaic.Ideal) arg2.view X2)) (trip_k0_t1.sl.HW_arg4_32 arg1 arg2 X1 X2 k) := by
  unfold trip_k0_t1.sl.HW_arg4_32
  repeat refine piecesOf_cons ?_ (fun x => ?_)
  · trivial
  all_goals
    idx_vars x
    try pointwise [trip_k0_t1.sl.r, trip_k0_t1.sl.r_2, trip_k0_t1.sl.r_6, trip_k0_t1.sl.r_8, trip_k0_t1.sl.r_10, trip_k0_t1.sl.r_13, trip_k0_t1.sl.r_18, trip_k0_t1.sl.r_19, trip_k0_t1.sl.r_20, trip_k0_t1.sl.r_24, trip_k0_t1.sl.r_26, trip_k0_t1.sl.r_28, trip_k0_t1.sl.r_30, trip_k0_t1.sl.r_35, trip_k0_t1.sl.r_37, trip_k0_t1.sl.r_39, trip_k0_t1.sl.r_41, trip_k0_t1.sl.r_46, trip_k0_t1.sl.r_48, trip_k0_t1.sl.r_49, trip_k0_t1.sl.r_53, trip_k0_t1.sl.r_55, trip_k0_t1.sl.r_57, trip_k0_t1.sl.r_60, trip_k0_t1.sl.r_65, trip_k0_t1.sl.r_1, trip_k0_t1.sl.r_11, trip_k0_t1.sl.r_12, trip_k0_t1.sl.r_29, trip_k0_t1.sl.r_58, trip_k0_t1.sl.r_59, trip_k0_t1.sl.r_3, trip_k0_t1.sl.r_4, trip_k0_t1.sl.r_14, trip_k0_t1.sl.r_16, trip_k0_t1.sl.r_63, trip_k0_t1.sl.r_61, trip_k0_t1.sl.r_51, trip_k0_t1.sl.r_52, trip_k0_t1.sl.r_50, trip_k0_t1.sl.r_54, trip_k0_t1.sl.r_56, trip_k0_t1.sl.r_47, trip_k0_t1.sl.r_45, trip_k0_t1.sl.r_43, trip_k0_t1.sl.r_44, trip_k0_t1.sl.r_42, trip_k0_t1.sl.r_40, trip_k0_t1.sl.r_38, trip_k0_t1.sl.r_36, trip_k0_t1.sl.r_34, trip_k0_t1.sl.r_33, trip_k0_t1.sl.r_31, trip_k0_t1.sl.r_27, trip_k0_t1.sl.r_25, trip_k0_t1.sl.r_23, trip_k0_t1.sl.r_22, trip_k0_t1.sl.r_21, trip_k0_t1.sl.r_17, trip_k0_t1.sl.r_5, trip_k0_t1.sl.r_7, trip_k0_t1.sl.r_9, trip_k0_t1.sl.r_15, trip_k0_t1.sl.r_62, trip_k0_t1.sl.r_64, trip_k0_t1.sl.r_66, trip_k0_t1.sl.r_32]
    unfold_payloads
    pointwise [View.readAt_eq_ld, off1, off2, off3, off4, off5, off6, off7, off8, off9, off10, off11, off12, off13, off14, off15, off16, off17, off18, off19, off20, off21, off22, off23, off24, off25, off26, off27, off28, off29, off30, off31, off32, off33]
    simp only [hSpec_ix]
    simp only [rd2_eq, hAt]

/-- They fill the row group. -/
theorem h_tiles (k : Fin k0_t1_loop.trips) : Tiles (Col (32 * k.val) 256) 32 (trip_k0_t1.sl.HW_arg4_32 arg1 arg2 X1 X2 k) := by
  unfold trip_k0_t1.sl.HW_arg4_32
  repeat refine tiles_cons ?_ (fun y hy => ?_)
  · trivial
  all_goals
    rw [Rect.mem_set_unit]
    exact (mem_col y hy (by simp only [off1, off2, off3, off4, off5, off6, off7, off8, off9, off10, off11, off12, off13, off14, off15, off16, off17, off18, off19, off20, off21, off22, off23, off24, off25, off26, off27, off28, off29, off30, off31, off32, off33, Nat.reduceMul]) rfl)

/-- The magnitudes kept are the blocks' largest. -/
theorem amax_pieces (k : Fin k0_t1_loop.trips) : View.PiecesOf (aSpec (View.read (Elt Idealize.ShloMosaic.Ideal) arg1.view X1) (View.read (Elt Idealize.ShloMosaic.Ideal) arg2.view X2) (View.read (Elt Idealize.ShloMosaic.Ideal) arg3.view X3) k.val) (trip_k0_t1.sl.HW_arg7_64 arg1 arg2 arg3 X1 X2 X3 k) := by
  unfold trip_k0_t1.sl.HW_arg7_64
  repeat refine piecesOf_cons ?_ (fun x => ?_)
  · trivial
  all_goals
    idx_vars x
    try pointwise [trip_k0_t1.sl.r, trip_k0_t1.sl.r_2, trip_k0_t1.sl.r_6, trip_k0_t1.sl.r_8, trip_k0_t1.sl.r_10, trip_k0_t1.sl.r_13, trip_k0_t1.sl.r_18, trip_k0_t1.sl.r_19, trip_k0_t1.sl.r_20, trip_k0_t1.sl.r_24, trip_k0_t1.sl.r_26, trip_k0_t1.sl.r_28, trip_k0_t1.sl.r_30, trip_k0_t1.sl.r_35, trip_k0_t1.sl.r_37, trip_k0_t1.sl.r_39, trip_k0_t1.sl.r_41, trip_k0_t1.sl.r_46, trip_k0_t1.sl.r_48, trip_k0_t1.sl.r_49, trip_k0_t1.sl.r_53, trip_k0_t1.sl.r_55, trip_k0_t1.sl.r_57, trip_k0_t1.sl.r_60, trip_k0_t1.sl.r_65, trip_k0_t1.sl.r_1, trip_k0_t1.sl.r_11, trip_k0_t1.sl.r_12, trip_k0_t1.sl.r_29, trip_k0_t1.sl.r_58, trip_k0_t1.sl.r_59, trip_k0_t1.sl.r_3, trip_k0_t1.sl.r_4, trip_k0_t1.sl.r_14, trip_k0_t1.sl.r_16, trip_k0_t1.sl.r_63, trip_k0_t1.sl.r_61, trip_k0_t1.sl.r_51, trip_k0_t1.sl.r_52, trip_k0_t1.sl.r_50, trip_k0_t1.sl.r_54, trip_k0_t1.sl.r_56, trip_k0_t1.sl.r_47, trip_k0_t1.sl.r_45, trip_k0_t1.sl.r_43, trip_k0_t1.sl.r_44, trip_k0_t1.sl.r_42, trip_k0_t1.sl.r_40, trip_k0_t1.sl.r_38, trip_k0_t1.sl.r_36, trip_k0_t1.sl.r_34, trip_k0_t1.sl.r_33, trip_k0_t1.sl.r_31, trip_k0_t1.sl.r_27, trip_k0_t1.sl.r_25, trip_k0_t1.sl.r_23, trip_k0_t1.sl.r_22, trip_k0_t1.sl.r_21, trip_k0_t1.sl.r_17, trip_k0_t1.sl.r_5, trip_k0_t1.sl.r_7, trip_k0_t1.sl.r_9, trip_k0_t1.sl.r_15, trip_k0_t1.sl.r_62, trip_k0_t1.sl.r_64, trip_k0_t1.sl.r_66, trip_k0_t1.sl.r_32]
    unfold_payloads
    pointwise [View.readAt_eq_ld, off1, off2, off3, off4, off5, off6, off7, off8, off9, off10, off11, off12, off13, off14, off15, off16, off17, off18, off19, off20, off21, off22, off23, off24, off25, off26, off27, off28, off29, off30, off31, off32, off33]
    simp only [aSpec_ix]
    simp only [rd2_eq, gAt_eq, kAmax, hAt, absf_eq_mag, Fin.coe_ofNat_eq_mod, Nat.reduceMod, Nat.reduceAdd, Nat.reduceMul, Nat.zero_add, ← Nat.add_assoc]

/-- They fill the columns read. -/
theorem amax_tiles (k : Fin k0_t1_loop.trips) : Tiles (Col 0 1) 64 (trip_k0_t1.sl.HW_arg7_64 arg1 arg2 arg3 X1 X2 X3 k) := by
  unfold trip_k0_t1.sl.HW_arg7_64
  repeat refine tiles_cons ?_ (fun y hy => ?_)
  · trivial
  all_goals
    rw [Rect.mem_set_unit]
    exact (mem_col y hy (by simp only [Nat.reduceMul]) rfl)

/-- A read of the sums just stored. -/
theorem h_read (k : Fin k0_t1_loop.trips) (y : S128x8192.Idx) (h0 : 32 * k.val ≤ (y 0).val) (h1 : (y 0).val < 32 * k.val + 32) :
    View.canon (trip_k0_t1.sl.HW_arg4_32 arg1 arg2 X1 X2 k) y = hSpec (View.read (Elt Idealize.ShloMosaic.Ideal) arg1.view X1) (View.read (Elt Idealize.ShloMosaic.Ideal) arg2.view X2) y :=
  View.canon_apply_of_pieces _ _ (h_pieces arg1 arg2 X1 X2 k).mem y
    (Tiles.cover (m := (y 1).val / 256) ⟨h0, h1, by omega, by omega⟩ 32 _ (h_tiles arg1 arg2 X1 X2 k)
      (by have : (y 1).val < 8192 := (y 1).isLt; omega))

/-- A read of the magnitudes just kept. -/
theorem amax_at (k : Fin k0_t1_loop.trips) (p : Fin 32) (b : Fin 64) :
    trip_k0_t1.sl.v1069 arg1 arg2 arg3 arg7 X1 X2 X3 k (ix2 p b)
      = kAmax (hAt (View.read (Elt Idealize.ShloMosaic.Ideal) arg1.view X1) (View.read (Elt Idealize.ShloMosaic.Ideal) arg2.view X2) (32 * k.val + p.val)) (gAt (View.read (Elt Idealize.ShloMosaic.Ideal) arg3.view X3)) b.val := by
  unfold trip_k0_t1.sl.v1069
  rw [readCov_eq_ld]
  have hc : ∀ y : S32x128.Idx, (y 1).val < 64 → View.canon (trip_k0_t1.sl.HW_arg7_64 arg1 arg2 arg3 X1 X2 X3 k) y
      = aSpec (View.read (Elt Idealize.ShloMosaic.Ideal) arg1.view X1) (View.read (Elt Idealize.ShloMosaic.Ideal) arg2.view X2) (View.read (Elt Idealize.ShloMosaic.Ideal) arg3.view X3) k.val y := fun y hy =>
    View.canon_apply_of_pieces _ _ (amax_pieces arg1 arg2 arg3 X1 X2 X3 k).mem y
      (Tiles.cover (m := (y 1).val) ⟨Nat.zero_le _, by have : (y 0).val < 32 := (y 0).isLt; omega, by omega, by omega⟩ 64 _
        (amax_tiles arg1 arg2 arg3 X1 X2 X3 k) hy)
  pointwise
  refine (hc _ b.isLt).trans ?_
  rfl

end Cert.KernelIdeal.Hand
-- ==== Proof.TripCodes.lean ====
/-
  The second half of a trip: the exponent of every block, its factor, and the codes and the scales stored, each read off
  the pieces the trip leaves.
-/
module

public import proofs.«01_k».proof.Proof.TripSums

@[expose] public section

set_option maxRecDepth 16384
set_option maxHeartbeats 2000000

noncomputable section

namespace Cert.KernelIdeal.Hand

open Cert.KernelIdeal Cert.KernelIdeal.Gen
open Cert.Spec
open Idealize.ShloMosaic Idealize.ShloMosaic.TcCoe Idealize.ShloMosaic.Tactic

variable (arg1 arg2 : Memref sig .tc .vmem S128x8192 .bf16) (arg3 : Memref sig .tc .vmem S1x8192 .f32)
  (arg4 : Memref sig .tc .vmem S128x8192 .bf16) (arg5 : Memref sig .tc .vmem S128x8192 .fp8e4m3) (arg6 : Memref sig .tc .vmem S128x64 .f32) (arg7 : Memref sig .tc .vmem S32x128 .f32)
  (X1 : BufTy.Contents (Elt Idealize.ShloMosaic.Ideal) arg1.view.ty) (X2 : BufTy.Contents (Elt Idealize.ShloMosaic.Ideal) arg2.view.ty) (X3 : BufTy.Contents (Elt Idealize.ShloMosaic.Ideal) arg3.view.ty)

/-- Every block's largest magnitude, normalised, over 448. -/
theorem v_at (k : Fin k0_t1_loop.trips) (p : Fin 32) (b : Fin 64) :
    trip_k0_t1.sl.r_68 arg1 arg2 arg3 arg7 X1 X2 X3 k (ix2 p b)
      = kV (hAt (View.read (Elt Idealize.ShloMosaic.Ideal) arg1.view X1) (View.read (Elt Idealize.ShloMosaic.Ideal) arg2.view X2) (32 * k.val + p.val)) (gAt (View.read (Elt Idealize.ShloMosaic.Ideal) arg3.view X3)) b.val := by
  have h := rs_at arg1 arg2 X1 X2 k p
  unfold trip_k0_t1.sl.r_67 at h
  pointwise [trip_k0_t1.sl.r_68, k0_pay203]
  rw [h, amax_at]
  rfl

/-- Every block's exponent. -/
theorem e_at (k : Fin k0_t1_loop.trips) (p : Fin 32) (b : Fin 64) :
    trip_k0_t1.sl.r_72 arg1 arg2 arg3 arg7 X1 X2 X3 k (ix2 p b)
      = kExp (kV (hAt (View.read (Elt Idealize.ShloMosaic.Ideal) arg1.view X1) (View.read (Elt Idealize.ShloMosaic.Ideal) arg2.view X2) (32 * k.val + p.val)) (gAt (View.read (Elt Idealize.ShloMosaic.Ideal) arg3.view X3)) b.val) := by
  rw [← v_at arg1 arg2 arg3 arg7]
  have h : k0_pay203 (trip_k0_t1.sl.r_63 arg1 arg2 X1 X2 k) (trip_k0_t1.sl.r_65 arg1 arg2 X1 X2 k) (trip_k0_t1.sl.v1069 arg1 arg2 arg3 arg7 X1 X2 X3 k)
      = trip_k0_t1.sl.r_68 arg1 arg2 arg3 arg7 X1 X2 X3 k := rfl
  pointwise [trip_k0_t1.sl.r_72, trip_k0_t1.sl.r_69, trip_k0_t1.sl.r_70, trip_k0_t1.sl.r_71, k0_pay207, k0_pay204, k0_pay205, k0_pay206, h]
  rfl

/-- Every block's factor. -/
theorem t_at (k : Fin k0_t1_loop.trips) (p : Fin 32) (b : Fin 64) :
    trip_k0_t1.sl.r_73 arg1 arg2 arg3 arg7 X1 X2 X3 k (ix2 p b)
      = kT (hAt (View.read (Elt Idealize.ShloMosaic.Ideal) arg1.view X1) (View.read (Elt Idealize.ShloMosaic.Ideal) arg2.view X2) (32 * k.val + p.val)) (gAt (View.read (Elt Idealize.ShloMosaic.Ideal) arg3.view X3)) b.val := by
  pointwise [trip_k0_t1.sl.r_73, k0_pay209]
  rw [rs_at, e_at]
  rfl

/-- The sums stored, read back at a row of the group. -/
theorem h_canon (k : Fin k0_t1_loop.trips) (p : Fin 32) (hp : 32 * k.val + p.val < 128) (c : Fin 8192) :
    View.canon (trip_k0_t1.sl.HW_arg4_32 arg1 arg2 X1 X2 k) (ix2 ⟨32 * k.val + p.val, hp⟩ c)
      = hAt (View.read (Elt Idealize.ShloMosaic.Ideal) arg1.view X1) (View.read (Elt Idealize.ShloMosaic.Ideal) arg2.view X2) (32 * k.val + p.val) c.val :=
  h_read arg1 arg2 X1 X2 k _ (Nat.le_add_right _ _) (Nat.add_lt_add_left p.isLt _)

/-- The scales stored. -/
theorem s_piece (k : Fin k0_t1_loop.trips) (p : Fin 32) (b : Fin 64) :
    k0_pay208 (F := Idealize.ShloMosaic.Ideal) (trip_k0_t1.sl.r_72 arg1 arg2 arg3 arg7 X1 X2 X3 k) 127#32 (ix2 p b)
      = kScale (kV (hAt (View.read (Elt Idealize.ShloMosaic.Ideal) arg1.view X1) (View.read (Elt Idealize.ShloMosaic.Ideal) arg2.view X2) (32 * k.val + p.val)) (gAt (View.read (Elt Idealize.ShloMosaic.Ideal) arg3.view X3)) b.val) := by
  pointwise [k0_pay208]
  rw [e_at]
  rfl

theorem code_intro (h g : ℕ → EReal) (c b : ℕ) (hb : b = c / 128) :
    min (Ideal.ofBits .f32 0x43E00000#32) (max (Ideal.ofBits .f32 0xC3E00000#32) (h c * g c * kT h g b)) = kCode h g (c / 128) c := by
  subst hb; rfl

variable (𝒱 : Variants) (c : Dev nD) (bd : Option 𝒱.V) (i : grid0.Coords) (harg1 : arg1.IsWhole) (harg2 : arg2.IsWhole) (harg3 : arg3.IsWhole) (harg4 : arg4.IsWhole) (harg5 : arg5.IsWhole) (harg6 : arg6.IsWhole) (harg7 : arg7.IsWhole) (k : Fin k0_t1_loop.trips)
  (f4 : BufTy.Contents (Elt Idealize.ShloMosaic.Ideal) arg4.view.ty) (f5 : BufTy.Contents (Elt Idealize.ShloMosaic.Ideal) arg5.view.ty) (f6 : BufTy.Contents (Elt Idealize.ShloMosaic.Ideal) arg6.view.ty) (f7 : BufTy.Contents (Elt Idealize.ShloMosaic.Ideal) arg7.view.ty)

/-- The pieces a trip leaves in the first output: the sums, over the row group. -/
theorem trip_h :
    View.PiecesOf (hSpec (View.read (Elt Idealize.ShloMosaic.Ideal) arg1.view X1) (View.read (Elt Idealize.ShloMosaic.Ideal) arg2.view X2)) ((trip_k0_t1 (F := Idealize.ShloMosaic.Ideal) 𝒱 c bd i arg1 harg1 arg2 harg2 arg3 harg3 arg4 harg4 arg5 harg5 arg6 harg6 arg7 harg7 X1 X2 X3 k).1 f4 f5 f6 f7)
    ∧ Tiles (Col (32 * k.val) 256) 32 ((trip_k0_t1 (F := Idealize.ShloMosaic.Ideal) 𝒱 c bd i arg1 harg1 arg2 harg2 arg3 harg3 arg4 harg4 arg5 harg5 arg6 harg6 arg7 harg7 X1 X2 X3 k).1 f4 f5 f6 f7) := by
  unfold trip_k0_t1
  exact ⟨h_pieces arg1 arg2 X1 X2 k, h_tiles arg1 arg2 X1 X2 k⟩

/-- The pieces a trip leaves in the third output: the scales, over the row group. -/
theorem trip_s :
    View.PiecesOf (sSpec (View.read (Elt Idealize.ShloMosaic.Ideal) arg1.view X1) (View.read (Elt Idealize.ShloMosaic.Ideal) arg2.view X2) (View.read (Elt Idealize.ShloMosaic.Ideal) arg3.view X3)) ((trip_k0_t1 (F := Idealize.ShloMosaic.Ideal) 𝒱 c bd i arg1 harg1 arg2 harg2 arg3 harg3 arg4 harg4 arg5 harg5 arg6 harg6 arg7 harg7 X1 X2 X3 k).2.2.1 f4 f5 f6 f7)
    ∧ Tiles (Col (32 * k.val) 64) 1 ((trip_k0_t1 (F := Idealize.ShloMosaic.Ideal) 𝒱 c bd i arg1 harg1 arg2 harg2 arg3 harg3 arg4 harg4 arg5 harg5 arg6 harg6 arg7 harg7 X1 X2 X3 k).2.2.1 f4 f5 f6 f7) := by
  unfold trip_k0_t1
  dsimp only
  constructor
  · refine piecesOf_cons trivial (fun x => ?_)
    idx_vars x
    rw [s_piece]
    pointwise [off33]
    rfl
  · refine tiles_cons trivial (fun y hy => ?_)
    rw [Rect.mem_set_unit]
    exact mem_col y hy (by simp only [off33, Nat.mul_zero]) rfl

/-- The pieces a trip leaves in the second output: the codes. -/
theorem trip_c :
    View.PiecesOf (cSpec (View.read (Elt Idealize.ShloMosaic.Ideal) arg1.view X1) (View.read (Elt Idealize.ShloMosaic.Ideal) arg2.view X2) (View.read (Elt Idealize.ShloMosaic.Ideal) arg3.view X3)) ((trip_k0_t1 (F := Idealize.ShloMosaic.Ideal) 𝒱 c bd i arg1 harg1 arg2 harg2 arg3 harg3 arg4 harg4 arg5 harg5 arg6 harg6 arg7 harg7 X1 X2 X3 k).2.1 f4 f5 f6 f7) := by
  unfold trip_k0_t1
  dsimp only
  repeat refine piecesOf_cons ?_ (fun x => ?_)
  · trivial
  all_goals
    idx_vars x
    try pointwise [trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103, trip_k0_t1.sl.r_104]
    unfold_payloads
    pointwise [View.readAt_eq_ld, readCov_eq_ld, trip_k0_t1.sl.v1155, trip_k0_t1.sl.v1185, trip_k0_t1.sl.v1215, trip_k0_t1.sl.v1245, trip_k0_t1.sl.v1275, trip_k0_t1.sl.v1305, trip_k0_t1.sl.v1335, trip_k0_t1.sl.v1365, trip_k0_t1.sl.v1395, trip_k0_t1.sl.v1425, trip_k0_t1.sl.v1455, trip_k0_t1.sl.v1485, trip_k0_t1.sl.v1515, trip_k0_t1.sl.v1545, trip_k0_t1.sl.v1575, trip_k0_t1.sl.v1605, trip_k0_t1.sl.v1635, trip_k0_t1.sl.v1665, trip_k0_t1.sl.v1695, trip_k0_t1.sl.v1725, trip_k0_t1.sl.v1755, trip_k0_t1.sl.v1785, trip_k0_t1.sl.v1815, trip_k0_t1.sl.v1845, trip_k0_t1.sl.v1875, trip_k0_t1.sl.v1905, trip_k0_t1.sl.v1935, trip_k0_t1.sl.v1965, trip_k0_t1.sl.v1995, trip_k0_t1.sl.v2025, trip_k0_t1.sl.v2055, trip_k0_t1.sl.v2085, off1, off2, off3, off4, off5, off6, off7, off8, off9, off10, off11, off12, off13, off14, off15, off16, off17, off18, off19, off20, off21, off22, off23, off24, off25, off26, off27, off28, off29, off30, off31, off32, off33, off34, off35, off36, off37, off38, off39, off40, off41, off42, off43, off44, off45, off46, off47, off48, off49, off50, off51, off52, off53, off54, off55, off56, off57, off58, off59, off60, off61, off62, off63, off64, off65, off66, off67, off68, off69, off70, off71, off72, off73, off74, off75, off76, off77, off78, off79, off80, off81, off82, off83, off84, off85, off86, off87, off88, off89, off90, off91, off92, off93, off94, off95, off96, off97]
    simp only [cSpec_ix, h_canon, rs_at, e_at, t_at, gAt_eq, Fin.coe_ofNat_eq_mod, Nat.reduceMod, Nat.reduceAdd, Nat.zero_add, ← Nat.add_assoc]
    exact code_intro _ _ _ _ (by omega)

/-- They fill the row group. -/
theorem trip_ct :
    Tiles (Col (32 * k.val) 128) 64 ((trip_k0_t1 (F := Idealize.ShloMosaic.Ideal) 𝒱 c bd i arg1 harg1 arg2 harg2 arg3 harg3 arg4 harg4 arg5 harg5 arg6 harg6 arg7 harg7 X1 X2 X3 k).2.1 f4 f5 f6 f7) := by
  unfold trip_k0_t1
  dsimp only
  repeat refine tiles_cons ?_ (fun y hy => ?_)
  · trivial
  all_goals
    rw [Rect.mem_set_unit]
    exact mem_col y hy (by simp only [off1, off2, off3, off4, off5, off6, off7, off8, off9, off10, off11, off12, off13, off14, off15, off16, off17, off18, off19, off20, off21, off22, off23, off24, off25, off26, off27, off28, off29, off30, off31, off32, off33, off34, off35, off36, off37, off38, off39, off40, off41, off42, off43, off44, off45, off46, off47, off48, off49, off50, off51, off52, off53, off54, off55, off56, off57, off58, off59, off60, off61, off62, off63, off64, off65, off66, off67, off68, off69, off70, off71, off72, off73, off74, off75, off76, off77, off78, off79, off80, off81, off82, off83, off84, off85, off86, off87, off88, off89, off90, off91, off92, off93, off94, off95, off96, off97, Nat.reduceMul]) rfl

end Cert.KernelIdeal.Hand
-- ==== Proof.Blocks.lean ====
/-
  What the row-group loop leaves in the three output blocks: the trips' pieces agree with the specification and the
  four row groups fill the block, so a block read back is the specification at every index.
-/
module

public import proofs.«01_k».proof.Proof.TripCodes
public import proofs.«01_k».proof.Proof.KernelIdealBody

@[expose] public section

set_option maxRecDepth 16384

noncomputable section

namespace Cert.KernelIdeal.Hand

open Cert.KernelIdeal Cert.KernelIdeal.Gen
open Cert.Spec
open Idealize.ShloMosaic Idealize.ShloMosaic.TcCoe Idealize.ShloMosaic.Tactic

/-- The pieces agree with `G` and hold every index of the first `n` row groups. -/
def Filled {a b : ℕ} {e : EltTy} (G : Shape.Idx ⟨2, ![a, b]⟩ → Elt Idealize.ShloMosaic.Ideal e) (n : ℕ) (L : List (View.Piece (Elt Idealize.ShloMosaic.Ideal) ⟨2, ![a, b]⟩ e)) : Prop :=
  (∀ p ∈ L, ∀ x : p.1.shape.Idx, p.2 x = G (p.1.emb x)) ∧ ∀ y : Shape.Idx ⟨2, ![a, b]⟩, (y 0).val < 32 * n → ∃ p ∈ L, y ∈ p.1.set

/-- Before the first trip nothing is filled. -/
theorem Filled.nil {a b : ℕ} {e : EltTy} (G : Shape.Idx ⟨2, ![a, b]⟩ → Elt Idealize.ShloMosaic.Ideal e) : Filled G 0 [] :=
  ⟨fun p hp => absurd hp List.not_mem_nil, fun y hy => absurd hy (by omega)⟩

/-- One more row group in front. -/
theorem Filled.step {a b w N : ℕ} {e : EltTy} {G : Shape.Idx ⟨2, ![a, b]⟩ → Elt Idealize.ShloMosaic.Ideal e} {n : ℕ} {L L' : List (View.Piece (Elt Idealize.ShloMosaic.Ideal) ⟨2, ![a, b]⟩ e)}
    (h : Filled G n L) (hp : View.PiecesOf G L') (ht : Tiles (Col (32 * n) w) N L') (hw : 0 < w) (hN : b ≤ w * N) : Filled G (n + 1) (L' ++ L) := by
  refine ⟨fun p hm => ?_, fun y hy => ?_⟩
  · rcases List.mem_append.mp hm with hm | hm
    · exact hp.mem p hm
    · exact h.1 p hm
  · by_cases hlt : (y 0).val < 32 * n
    · obtain ⟨p, hm, hy'⟩ := h.2 y hlt
      exact ⟨p, List.mem_append_right _ hm, hy'⟩
    · have hb : (y 1).val < w * N := lt_of_lt_of_le (y 1).isLt hN
      have hc : Col (32 * n) w ((y 1).val / w) y := by
        refine ⟨by omega, by omega, Nat.mul_div_le _ _, ?_⟩
        exact Nat.lt_mul_div_succ _ hw
      obtain ⟨p, hm, hy'⟩ := Tiles.cover hc N L' ht (Nat.div_lt_of_lt_mul hb)
      exact ⟨p, List.mem_append_left _ hm, hy'⟩

variable (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S1x8192 .f32) (harg3 : arg3.IsWhole) (arg4 : Memref sig .tc .vmem S128x8192 .bf16) (harg4 : arg4.IsWhole) (arg5 : Memref sig .tc .vmem S128x8192 .fp8e4m3) (harg5 : arg5.IsWhole) (arg6 : Memref sig .tc .vmem S128x64 .f32) (harg6 : arg6.IsWhole)
  (X1 : BufTy.Contents (Elt Idealize.ShloMosaic.Ideal) arg1.view.ty) (X2 : BufTy.Contents (Elt Idealize.ShloMosaic.Ideal) arg2.view.ty) (X3 : BufTy.Contents (Elt Idealize.ShloMosaic.Ideal) arg3.view.ty)
  (G4 : BufTy.Contents (Elt Idealize.ShloMosaic.Ideal) arg4.view.ty) (G5 : BufTy.Contents (Elt Idealize.ShloMosaic.Ideal) arg5.view.ty) (G6 : BufTy.Contents (Elt Idealize.ShloMosaic.Ideal) arg6.view.ty) (G7 : BufTy.Contents (Elt Idealize.ShloMosaic.Ideal) scM.view.ty)

/-- After `n` trips, in each output: the pieces of the first `n` row groups. -/
theorem trips_filled : ∀ n : ℕ, n ≤ k0_t1_loop.trips →
    Filled (hSpec (View.read (Elt Idealize.ShloMosaic.Ideal) arg1.view X1) (View.read (Elt Idealize.ShloMosaic.Ideal) arg2.view X2)) n (pb_k0_t1 (F := Idealize.ShloMosaic.Ideal) Variants.none c none i arg1 harg1 arg2 harg2 arg3 harg3 arg4 harg4 arg5 harg5 arg6 harg6 scM (Memref.isWhole_whole _) X1 X2 X3 G4 G5 G6 G7 n).1
    ∧ Filled (cSpec (View.read (Elt Idealize.ShloMosaic.Ideal) arg1.view X1) (View.read (Elt Idealize.ShloMosaic.Ideal) arg2.view X2) (View.read (Elt Idealize.ShloMosaic.Ideal) arg3.view X3)) n (pb_k0_t1 (F := Idealize.ShloMosaic.Ideal) Variants.none c none i arg1 harg1 arg2 harg2 arg3 harg3 arg4 harg4 arg5 harg5 arg6 harg6 scM (Memref.isWhole_whole _) X1 X2 X3 G4 G5 G6 G7 n).2.1
    ∧ Filled (sSpec (View.read (Elt Idealize.ShloMosaic.Ideal) arg1.view X1) (View.read (Elt Idealize.ShloMosaic.Ideal) arg2.view X2) (View.read (Elt Idealize.ShloMosaic.Ideal) arg3.view X3)) n (pb_k0_t1 (F := Idealize.ShloMosaic.Ideal) Variants.none c none i arg1 harg1 arg2 harg2 arg3 harg3 arg4 harg4 arg5 harg5 arg6 harg6 scM (Memref.isWhole_whole _) X1 X2 X3 G4 G5 G6 G7 n).2.2.1
  | 0, _ => ⟨Filled.nil _, Filled.nil _, Filled.nil _⟩
  | n + 1, hn => by
    obtain ⟨h1, h2, h3⟩ := trips_filled n (Nat.le_of_succ_le hn)
    have e := pb_k0_t1_succ (F := Idealize.ShloMosaic.Ideal) Variants.none c none i arg1 harg1 arg2 harg2 arg3 harg3 arg4 harg4 arg5 harg5 arg6 harg6 scM (Memref.isWhole_whole _) X1 X2 X3 G4 G5 G6 G7 ⟨n, hn⟩
    dsimp only at e
    rw [e]
    dsimp only
    have t1 := fun f4 f5 f6 f7 => trip_h arg1 arg2 arg3 arg4 arg5 arg6 scM X1 X2 X3 Variants.none c none i harg1 harg2 harg3 harg4 harg5 harg6 (Memref.isWhole_whole _) ⟨n, hn⟩ f4 f5 f6 f7
    have t2 := fun f4 f5 f6 f7 => trip_c arg1 arg2 arg3 arg4 arg5 arg6 scM X1 X2 X3 Variants.none c none i harg1 harg2 harg3 harg4 harg5 harg6 (Memref.isWhole_whole _) ⟨n, hn⟩ f4 f5 f6 f7
    have t2' := fun f4 f5 f6 f7 => trip_ct arg1 arg2 arg3 arg4 arg5 arg6 scM X1 X2 X3 Variants.none c none i harg1 harg2 harg3 harg4 harg5 harg6 (Memref.isWhole_whole _) ⟨n, hn⟩ f4 f5 f6 f7
    have t3 := fun f4 f5 f6 f7 => trip_s arg1 arg2 arg3 arg4 arg5 arg6 scM X1 X2 X3 Variants.none c none i harg1 harg2 harg3 harg4 harg5 harg6 (Memref.isWhole_whole _) ⟨n, hn⟩ f4 f5 f6 f7
    exact ⟨h1.step (t1 _ _ _ _).1 (t1 _ _ _ _).2 (by omega) (by omega), h2.step (t2 _ _ _ _) (t2' _ _ _ _) (by omega) (by omega),
      h3.step (t3 _ _ _ _).1 (t3 _ _ _ _).2 (by omega) (by omega)⟩

/-- The loop makes four trips. -/
theorem trips_eq : k0_t1_loop.trips = 4 := by decide

/-- A filled block read back is the specification. -/
theorem Filled.read {sp : Space} {b : ℕ} {e : EltTy} {G : Shape.Idx ⟨2, ![128, b]⟩ → Elt Idealize.ShloMosaic.Ideal e} {L : List (View.Piece (Elt Idealize.ShloMosaic.Ideal) ⟨2, ![128, b]⟩ e)}
    (h : Filled G k0_t1_loop.trips L) (v : View sig .tc sp ⟨2, ![128, b]⟩ e) (f : BufTy.Contents (Elt Idealize.ShloMosaic.Ideal) v.ty) :
    v.read (Elt Idealize.ShloMosaic.Ideal) (v.writes (Elt Idealize.ShloMosaic.Ideal) f L) = G := by
  funext y
  refine View.read_writes_apply_of_pieces v f G L h.1 y (h.2 y ?_)
  rw [trips_eq]
  exact (y 0).isLt

/-- The block of sums after the loop. -/
theorem read_h : arg4.view.read (Elt Idealize.ShloMosaic.Ideal) (arg4.view.writes (Elt Idealize.ShloMosaic.Ideal) G4 (pcs (F := Idealize.ShloMosaic.Ideal) c i arg1 harg1 arg2 harg2 arg3 harg3 arg4 harg4 arg5 harg5 arg6 harg6 X1 X2 X3 G4 G5 G6 G7).1) = hSpec (View.read (Elt Idealize.ShloMosaic.Ideal) arg1.view X1) (View.read (Elt Idealize.ShloMosaic.Ideal) arg2.view X2) :=
  Filled.read (trips_filled c i arg1 harg1 arg2 harg2 arg3 harg3 arg4 harg4 arg5 harg5 arg6 harg6 X1 X2 X3 G4 G5 G6 G7 _ le_rfl).1 _ _

/-- The block of codes after the loop. -/
theorem read_c : arg5.view.read (Elt Idealize.ShloMosaic.Ideal) (arg5.view.writes (Elt Idealize.ShloMosaic.Ideal) G5 (pcs (F := Idealize.ShloMosaic.Ideal) c i arg1 harg1 arg2 harg2 arg3 harg3 arg4 harg4 arg5 harg5 arg6 harg6 X1 X2 X3 G4 G5 G6 G7).2.1) = cSpec (View.read (Elt Idealize.ShloMosaic.Ideal) arg1.view X1) (View.read (Elt Idealize.ShloMosaic.Ideal) arg2.view X2) (View.read (Elt Idealize.ShloMosaic.Ideal) arg3.view X3) :=
  Filled.read (trips_filled c i arg1 harg1 arg2 harg2 arg3 harg3 arg4 harg4 arg5 harg5 arg6 harg6 X1 X2 X3 G4 G5 G6 G7 _ le_rfl).2.1 _ _

/-- The block of scales after the loop. -/
theorem read_s : arg6.view.read (Elt Idealize.ShloMosaic.Ideal) (arg6.view.writes (Elt Idealize.ShloMosaic.Ideal) G6 (pcs (F := Idealize.ShloMosaic.Ideal) c i arg1 harg1 arg2 harg2 arg3 harg3 arg4 harg4 arg5 harg5 arg6 harg6 X1 X2 X3 G4 G5 G6 G7).2.2.1) = sSpec (View.read (Elt Idealize.ShloMosaic.Ideal) arg1.view X1) (View.read (Elt Idealize.ShloMosaic.Ideal) arg2.view X2) (View.read (Elt Idealize.ShloMosaic.Ideal) arg3.view X3) :=
  Filled.read (trips_filled c i arg1 harg1 arg2 harg2 arg3 harg3 arg4 harg4 arg5 harg5 arg6 harg6 X1 X2 X3 G4 G5 G6 G7 _ le_rfl).2.2 _ _

end Cert.KernelIdeal.Hand
-- ==== Proof.KernelRun.lean ====
/-
  The run of the kernel's program with the exact contents of its outputs: the proof data names what the body leaves in
  each output block at each grid point (the specification at the blocks staged there), and the launch is the library's.
-/
module

public import proofs.«01_k».proof.Proof.Blocks

@[expose] public section

set_option maxRecDepth 16384

noncomputable section

namespace Cert.KernelIdeal.Hand

open Cert.KernelIdeal Cert.KernelIdeal.Gen
open Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Idealize.ShloMosaic.Ideal) ℕ (UR sig nD τ) ℕ

variable (m : (ℓ : Loc nD τ sig) → Buf (Elt Idealize.ShloMosaic.Ideal) ℓ) (ρ : Dev nD → PrngReg)

/-- The proof data on core `c`: an input's buffer holds its block after the body, an output's the specification of it. -/
def vdats (_ : Fin 1) (c : Dev nD) : Dat τ (Elt Idealize.ShloMosaic.Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hSpec (iblk m c 0 t) (iblk m c 1 t)
    | ⟨4, _⟩ => cSpec (iblk m c 0 t) (iblk m c 1 t) (iblk m c 2 t)
    | ⟨5, _⟩ => sSpec (iblk m c 0 t) (iblk m c 1 t) (iblk m c 2 t)
  Φ _ := Pipeline.ΦA spec0 c
  q _ := fullShare
  owed _ := 0

theorem vA_eq (c : Dev nD) (w : Fin cfg0.W) : (vdats m 0 c).A w = V m c (Pipeline.arrRef spec0 w) := by dsimp only [vdats]
theorem vafter0_0 (c : Dev nD) (t : Fin cfg0.N) : (vdats m 0 c).after 0 t = iblk m c 0 t := by dsimp only [vdats]
theorem vafter0_1 (c : Dev nD) (t : Fin cfg0.N) : (vdats m 0 c).after 1 t = iblk m c 1 t := by dsimp only [vdats]
theorem vafter0_2 (c : Dev nD) (t : Fin cfg0.N) : (vdats m 0 c).after 2 t = iblk m c 2 t := by dsimp only [vdats]
theorem vafter0_3 (c : Dev nD) (t : Fin cfg0.N) : (vdats m 0 c).after 3 t = hSpec (iblk m c 0 t) (iblk m c 1 t) := by dsimp only [vdats]
theorem vafter0_4 (c : Dev nD) (t : Fin cfg0.N) : (vdats m 0 c).after 4 t = cSpec (iblk m c 0 t) (iblk m c 1 t) (iblk m c 2 t) := by dsimp only [vdats]
theorem vafter0_5 (c : Dev nD) (t : Fin cfg0.N) : (vdats m 0 c).after 5 t = sSpec (iblk m c 0 t) (iblk m c 1 t) (iblk m c 2 t) := by dsimp only [vdats]
theorem vbefore0_0 (c : Dev nD) (t : Fin cfg0.N) (d) : (vdats m 0 c).before 0 t d = iblk m c 0 t :=
  before0_0_of m (vdats m 0 c) (vA_eq m c 0) (vafter0_0 m c) t d
theorem vbefore0_1 (c : Dev nD) (t : Fin cfg0.N) (d) : (vdats m 0 c).before 1 t d = iblk m c 1 t :=
  before0_1_of m (vdats m 0 c) (vA_eq m c 1) (vafter0_1 m c) t d
theorem vbefore0_2 (c : Dev nD) (t : Fin cfg0.N) (d) : (vdats m 0 c).before 2 t d = iblk m c 2 t :=
  before0_2_of m (vdats m 0 c) (vA_eq m c 2) (vafter0_2 m c) t d

/-- What the body is called with at point `t`, -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d)))
/-- and what it returns. -/
def vbodyPost (c : Dev nD) (t : Fin cfg0.N) : sProp 𝕄 :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t))

/-- The body at any point: the run, and each output read back. -/
theorem vsound_body (c : Dev nD) (t : Fin cfg0.N) :
    vbodyPre m c t ⊢ wp Idealize.ShloMosaic.frame (wpE (defs₀ (F := Idealize.ShloMosaic.Ideal)) Variants.none c none) Set.univ (bodyAt0 t) (fun _ => vbodyPost m c t) := by
  unfold vbodyPre vbodyPost bodyAt0
  simp only [vbefore0_0, vbefore0_1, vbefore0_2]
  rw [show (vdats m 0 c).Φ t.succ = (vdats m 0 c).Φ t.castSucc from rfl,
    show (vdats m 0 c).owesAt () t.succ = (vdats m 0 c).owesAt () t.castSucc from rfl,
    show (vdats m 0 c).Φ t.castSucc = Pipeline.ΦA spec0 c from rfl, PhiA0_eq,
    vafter0_0, vafter0_1, vafter0_2, vafter0_3, vafter0_4, vafter0_5]
  unfold owns
  iintro ⟨⟨⟨%ds, %fs, -, HS⟩, Hg⟩, Ho, ⟨%d0, %f0, %hf0, H0⟩, ⟨%d1, %f1, %hf1, H1⟩, ⟨%d2, %f2, %hf2, H2⟩, ⟨%d3, %f3, -, H3⟩, ⟨%d4, %f4, -, H4⟩, ⟨%d5, %f5, -, H5⟩⟩
  iapply (kernelRun c (grid0.coords t) _ _ _ _ _ _ _ _ _ _ _ _ f0 f1 f2 f3 f4 f5 fs _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, ⟨%fs', HS⟩⟩
  isplitl [HS Hg]
  · isplitl [HS]
    · iexists _, _; isplitr; swap; · iexact HS
      ipureintro; rfl
    iexact Hg
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr; swap; · iexact H3
    ipureintro; rw [← hf0, ← hf1]; exact read_h c _ _ _ _ _ _ _ _ _ _ _ _ _ _ _ _ _ _ _ _
  isplitl [H4]
  · iexists _; isplitr; swap; · iexact H4
    ipureintro; rw [← hf0, ← hf1, ← hf2]; exact read_c c _ _ _ _ _ _ _ _ _ _ _ _ _ _ _ _ _ _ _ _
  iexists _; isplitr; swap; · iexact H5
  ipureintro; rw [← hf0, ← hf1, ← hf2]; exact read_s c _ _ _ _ _ _ _ _ _ _ _ _ _ _ _ _ _ _ _ _

theorem vbody_obligation (c : Dev nD) :
    BodyObligation (vdats m 0 c) (defs₀ (F := Idealize.ShloMosaic.Ideal)) Variants.none () Set.univ := fun t => by
  rw [bigSep_W0, bigSep_W0, defs₀_row]
  exact triple_restated (vsound_body m c t) rfl .rfl fun _ => .rfl

set_option backward.isDefEq.respectTransparency.types false in
set_option maxHeartbeats 800000 in
/-- The launch: every fair execution terminates with every array of the pipeline at what the proof data says. -/
theorem vrun_main :
    θ_run defs (onTc (τ := τ) (main (F := Idealize.ShloMosaic.Ideal))) (s₀ m ρ)
      (fun r => (Pipeline.FramePost cfgs (vdats m) 0 (V m)) r ∧ r.2.sem = fun _ => 0) :=
  Pipeline.θ_run_frame (Q' := _) cfgs (vdats m) (0 : Fin 1) launch0 defs₀ Variants.none m ρ main
    (hbody := fun c => (vbody_obligation m c).loose) (hshare := fun c => (vdats m 0 c).share_full fun _ => rfl)
    (howed := fun _ _ => rfl) (V := V m) (hmain := hmain m Variants.none) (hA := vA_eq m) (hΦ := fun _ _ => rfl)

end Cert.KernelIdeal.Hand
-- ==== Proof.Search.lean ====
/-
  The binary search for the exponent field: the powers of two as the bit patterns name them, the eight steps, and the
  scale and its inverse at the field found.
-/
module

public import proofs.«01_k».proof.Proof.Spec

@[expose] public section

noncomputable section

namespace Cert.Spec

open Idealize.ShloMosaic

/-- The value whose exponent field is `n`, the fraction zero. -/
def pw (n : ℕ) : EReal := Ideal.ofBits .f32 (BitVec.ofNat 32 (n * 2 ^ 23))

theorem pw_parts_all : ∀ n : Fin 256, (BitVec.extractLsb' 31 1 (BitVec.ofNat 32 (n.val * 2 ^ 23)) == 1#1) = false
    ∧ (BitVec.extractLsb' 23 8 (BitVec.ofNat 32 (n.val * 2 ^ 23))).toNat = n.val ∧ (BitVec.extractLsb' 0 23 (BitVec.ofNat 32 (n.val * 2 ^ 23))).toNat = 0 := by
  decide +kernel

theorem pw_parts (n : ℕ) (hn : n ≤ 255) : (BitVec.extractLsb' 31 1 (BitVec.ofNat 32 (n * 2 ^ 23)) == 1#1) = false
    ∧ (BitVec.extractLsb' 23 8 (BitVec.ofNat 32 (n * 2 ^ 23))).toNat = n ∧ (BitVec.extractLsb' 0 23 (BitVec.ofNat 32 (n * 2 ^ 23))).toNat = 0 :=
  pw_parts_all ⟨n, Nat.lt_succ_of_le hn⟩

theorem pw_eq (n : ℕ) (h1 : 1 ≤ n) (h2 : n ≤ 254) : pw n = (((2 : ℝ) ^ ((n : ℤ) - 127) : ℝ) : EReal) := by
  obtain ⟨ha, hb, hc⟩ := pw_parts n (by omega)
  unfold pw Ideal.ofBits Ideal.ieee
  simp only [show (8 + 23 : ℕ) = 31 from rfl, ha, hb, hc]
  rw [if_neg (by norm_num; omega), if_neg (by omega)]
  have : (2 : ℝ) ^ ((n : ℤ) - (2 ^ (8 - 1) - 1) - (23 : ℕ)) = (2 : ℝ) ^ ((n : ℤ) - 127) * (2 ^ 23)⁻¹ := by
    rw [show ((n : ℤ) - (2 ^ (8 - 1) - 1) - (23 : ℕ)) = ((n : ℤ) - 127) + (-23) by norm_num; ring, zpow_add₀ (by norm_num)]
    norm_num
  rw [this]
  congr 1
  simp only [Bool.false_eq_true, if_false]
  push_cast
  ring

theorem pw_zero : pw 0 = 0 := by
  obtain ⟨ha, hb, hc⟩ := pw_parts 0 (by omega)
  unfold pw Ideal.ofBits Ideal.ieee
  simp only [show (8 + 23 : ℕ) = 31 from rfl, ha, hb, hc]
  norm_num

theorem pw_top : pw 255 = ⊤ := by
  obtain ⟨ha, hb, hc⟩ := pw_parts 255 (by omega)
  unfold pw Ideal.ofBits Ideal.ieee
  simp only [show (8 + 23 : ℕ) = 31 from rfl, ha, hb, hc]
  norm_num

theorem pw_127 : pw 127 = 1 := by
  rw [pw_eq 127 (by omega) (by omega)]; norm_num

theorem pw_mono {a b : ℕ} (hab : a ≤ b) (hb : b ≤ 255) : pw a ≤ pw b := by
  rcases Nat.eq_or_lt_of_le hb with rfl | hb
  · rw [pw_top]; exact le_top
  rcases Nat.eq_zero_or_pos a with rfl | ha
  · rw [pw_zero]
    rcases Nat.eq_zero_or_pos b with rfl | hb'
    · rw [pw_zero]
    · rw [pw_eq b hb' (by omega)]
      exact EReal.coe_nonneg.mpr (by positivity)
  · rw [pw_eq a ha (by omega), pw_eq b (by omega) (by omega)]
    exact EReal.coe_le_coe_iff.mpr (zpow_le_zpow_right₀ (by norm_num : (1 : ℝ) ≤ 2) (by omega))

theorem shl_eq (n : ℕ) : IntOp.shli .vector (BitVec.ofNat 32 n) 23#32 = BitVec.ofNat 32 (n * 2 ^ 23) := by
  unfold IntOp.shli
  rw [if_pos (by decide)]
  apply BitVec.eq_of_toNat_eq
  simp only [BitVec.shiftLeft_eq', BitVec.toNat_shiftLeft, BitVec.toNat_ofNat, Nat.shiftLeft_eq, Nat.mod_mul_mod, Nat.reduceMod, Nat.reducePow]

theorem shl_pw (n : ℕ) : Ideal.ofBits .f32 (IntOp.shli .vector (BitVec.ofNat 32 n) 23#32) = pw n := by
  unfold pw; rw [shl_eq]

theorem add_eq (a b : ℕ) : IntOp.addi (BitVec.ofNat 32 a) (BitVec.ofNat 32 b) = BitVec.ofNat 32 (a + b) := by
  unfold IntOp.addi
  rw [BitVec.ofNat_add]

/-- `w` is a field found up to steps of `d`. -/
def Found (v : EReal) (d : ℕ) (w : BitVec 32) : Prop :=
  ∃ n : ℕ, w = BitVec.ofNat 32 n ∧ n + d ≤ 256 ∧ pw n ≤ v ∧ ∀ j, n + d ≤ j → j ≤ 255 → v < pw j

theorem Found.step {v : EReal} {d : ℕ} {w : BitVec 32} (hd : 1 ≤ d) (h : Found v (2 * d) w) :
    Found v d (kStep v w (BitVec.ofNat 32 d)) := by
  obtain ⟨n, rfl, hn, hle, hlt⟩ := h
  unfold kStep
  rw [add_eq, shl_pw]
  by_cases hc : pw (n + d) ≤ v
  · rw [if_pos hc]
    exact ⟨n + d, rfl, by omega, hc, fun j hj hj' => hlt j (by omega) hj'⟩
  · rw [if_neg hc]
    exact ⟨n, rfl, by omega, hle, fun j hj hj' => lt_of_lt_of_le (not_le.mp hc) (pw_mono hj hj')⟩

theorem field_found {v : EReal} (hv : 0 ≤ v) : Found v 1 (kField v) := by
  have h0 : Found v (2 * 128) 0#32 := ⟨0, rfl, by omega, by rw [pw_zero]; exact hv, fun j h1 h2 => absurd h1 (by omega)⟩
  unfold kField
  exact (((((((h0.step (by omega)).step (d := 64) (by omega)).step (d := 32) (by omega)).step (d := 16) (by omega)).step (d := 8) (by omega)).step (d := 4)
    (by omega)).step (d := 2) (by omega)).step (d := 1) (by omega)

/-- Below the largest power the search tells apart, the scale is the power above `v` and the inverse its inverse, and
    below the smallest normal both are one. -/
theorem scale_cases {v : EReal} (hv : 0 ≤ v) (hlt : v < pw 253) :
    (v < pw 1 ∧ kScale v = 1 ∧ kInv v = 1)
    ∨ ∃ n : ℕ, 1 ≤ n ∧ n ≤ 252 ∧ pw n ≤ v ∧ v < pw (n + 1) ∧ kScale v = pw (n + 1) ∧ kInv v = pw (253 - n) := by
  obtain ⟨n, hw, hn, hle, hj⟩ := field_found hv
  have hn' : n ≤ 252 := by
    by_contra hc
    exact absurd (lt_of_le_of_lt hle hlt) (not_lt.mpr (pw_mono (by omega) (by omega)))
  rcases Nat.eq_zero_or_pos n with rfl | hpos
  · left
    have he : kExp v = 0#32 := by unfold kExp; rw [hw]; decide
    refine ⟨hj 1 (by omega) (by omega), ?_, ?_⟩
    · unfold kScale; rw [he, show IntOp.addi 0#32 127#32 = 127#32 by decide, shl_pw, pw_127]
    · unfold kInv; rw [he, show IntOp.subi 127#32 0#32 = 127#32 by decide, shl_pw, pw_127]
  · right
    have hne : (BitVec.ofNat 32 n == 0#32) = false := by
      rw [beq_eq_false_iff_ne]; intro h
      have := congrArg BitVec.toNat h
      simp only [BitVec.toNat_ofNat] at this
      omega
    have hne' : (BitVec.ofNat 32 n == 255#32) = false := by
      rw [beq_eq_false_iff_ne]; intro h
      have := congrArg BitVec.toNat h
      simp only [BitVec.toNat_ofNat] at this
      omega
    have he : kExp v = BitVec.ofNat 32 n - 126#32 := by
      unfold kExp; rw [hw]
      simp only [IntOp.cmpi, hne, hne', IntOp.ori, IntOp.subi, Scalar.select]
      rw [if_neg (by decide)]
    refine ⟨n, hpos, hn', hle, hj _ le_rfl (by omega), ?_, ?_⟩
    · unfold kScale; rw [he]
      have : IntOp.addi (BitVec.ofNat 32 n - 126#32) 127#32 = BitVec.ofNat 32 (n + 1) := by
        unfold IntOp.addi
        apply BitVec.eq_of_toNat_eq
        simp only [BitVec.toNat_add, BitVec.toNat_sub, BitVec.toNat_ofNat]
        omega
      rw [this, shl_pw]
    · unfold kInv; rw [he]
      have : IntOp.subi 127#32 (BitVec.ofNat 32 n - 126#32) = BitVec.ofNat 32 (253 - n) := by
        unfold IntOp.subi
        apply BitVec.eq_of_toNat_eq
        simp only [BitVec.toNat_sub, BitVec.toNat_ofNat]
        omega
      rw [this, shl_pw]

end Cert.Spec
-- ==== Proof.Rows.lean ====
/-
  One row of the reference over the extended reals, and that the kernel's row is the same: the sum of squares
  regrouped, the reciprocal root inside or outside the block's largest magnitude, the field found by search against the
  least power of two above, and the code's product reassociated.
-/
module

public import proofs.«01_k».proof.Proof.Search
public import Idealize.ShloMosaic.Lib.Pipeline.ValueKit.Acc

@[expose] public section

noncomputable section

namespace Cert.Spec

open Idealize.ShloMosaic

/-! ## The reference's row -/

/-- The reciprocal root of the row's mean square. -/
def rRs (h : ℕ → EReal) : EReal :=
  Ideal.rsqrt (Ideal.div (∑ c : Fin 8192, h c.val * h c.val) (Ideal.ofBits .f32 0x46000000#32) + Ideal.ofBits .f32 0x358637BD#32)

/-- Block `b`'s largest magnitude of the normalised row, over 448. -/
def rV (h g : ℕ → EReal) (b : ℕ) : EReal :=
  (Finset.univ.fold max (Ideal.ofBits .f32 0xFF800000#32) fun x : Fin 128 => mag (h (128 * b + x.val) * rRs h * g (128 * b + x.val)))
    * Ideal.ofBits .f32 0x3B124925#32

/-- The power of two at place `x` of the reference's list. -/
def rPow (x : ℕ) : EReal := Ideal.exp2 ((((IntOp.subi (BitVec.ofNat 32 x) 126#32).toInt : ℝ)) : EReal)

/-- The least power of two above `v`. -/
def rLeast (v : EReal) : EReal :=
  Finset.univ.fold min (Ideal.ofBits .f32 0x7F800000#32) fun x : Fin 256 => if v < rPow x.val then rPow x.val else Ideal.ofBits .f32 0x7F800000#32

/-- The scale. -/
def rScale (v : EReal) : EReal := if v < Ideal.ofBits .f32 0x00800000#32 then Ideal.ofBits .f32 0x3F800000#32 else rLeast v

/-- The code at column `c` of block `b`. -/
def rCode (h g : ℕ → EReal) (b c : ℕ) : EReal :=
  min (Ideal.ofBits .f32 0x43E00000#32) (max (Ideal.ofBits .f32 0xC3E00000#32)
    (h c * rRs h * g c * Ideal.div (Ideal.ofBits .f32 0x3F800000#32) (rScale (rV h g b))))

/-! ## Constants -/

/-- The kernel's factor 1/8192. -/
theorem c_13 : Ideal.ofBits .f32 0x39000000#32 = (((2 : ℝ) ^ (-13 : ℤ) : ℝ) : EReal) := pw_eq 114 (by omega) (by omega)
/-- The reference's divisor 8192. -/
theorem c_8192 : Ideal.ofBits .f32 0x46000000#32 = ((8192 : ℝ) : EReal) := by
  refine (pw_eq 140 (by omega) (by omega)).trans ?_; norm_num
/-- The float one. -/
theorem c_one : Ideal.ofBits .f32 0x3F800000#32 = 1 := pw_127
/-- The least normal float. -/
theorem c_min : Ideal.ofBits .f32 0x00800000#32 = pw 1 := rfl
/-- Positive infinity. -/
theorem c_top : Ideal.ofBits .f32 0x7F800000#32 = ⊤ := pw_top
/-- Negative infinity. -/
theorem c_bot : Ideal.ofBits .f32 0xFF800000#32 = ⊥ := by simp [Ideal.ofBits, Ideal.ieee]
/-- The constant added under the root. -/
theorem c_eps : Ideal.ofBits .f32 0x358637BD#32 = ((8796093 * (2 : ℝ) ^ (-43 : ℤ) : ℝ) : EReal) := by
  simp [Ideal.ofBits, Ideal.ieee, -EReal.coe_mul]
/-- The float nearest 1/448. -/
theorem c_448 : Ideal.ofBits .f32 0x3B124925#32 = ((9586981 * (2 : ℝ) ^ (-32 : ℤ) : ℝ) : EReal) := by
  simp [Ideal.ofBits, Ideal.ieee, -EReal.coe_mul]
/-- The largest finite bf16. -/
theorem c_gmax : Ideal.ofBits .f32 0x7F7F0000#32 = ((255 * (2 : ℝ) ^ (120 : ℤ) : ℝ) : EReal) := by
  simp [Ideal.ofBits, Ideal.ieee, -EReal.coe_mul]; norm_num

/-! ## The reciprocal root -/

/-- A square is not negative. -/
theorem sq_nonneg' (x : EReal) : 0 ≤ x * x := by
  induction x using EReal.rec with
  | bot => simp
  | top => simp
  | coe r => rw [← EReal.coe_mul]; exact EReal.coe_nonneg.mpr (mul_self_nonneg r)

/-- The row's sum of squares. -/
def sq (h : ℕ → EReal) : EReal := ∑ c ∈ Finset.range 8192, h c * h c

/-- The reference's sum of squares, as a sum over a range. -/
theorem sq_ref (h : ℕ → EReal) : (∑ c : Fin 8192, h c.val * h c.val) = sq h :=
  Fin.sum_univ_eq_sum_range (fun c => h c * h c) 8192

/-- The kernel's regrouped sum of squares is the plain one. -/
theorem sq_ker (h : ℕ → EReal) : (∑ l : Fin 128, ∑ b ∈ Finset.range 64, h (128 * b + l.val) * h (128 * b + l.val)) = sq h := by
  rw [Fin.sum_univ_eq_sum_range (fun l => ∑ b ∈ Finset.range 64, h (128 * b + l) * h (128 * b + l)) 128, Finset.sum_comm]
  unfold sq
  rw [show (8192 : ℕ) = 64 * 128 from rfl, Finset.sum_range_mul_split 64 128 (fun c => h c * h c)]
  simp only [Nat.mul_comm 128]

/-- The sum of squares is not negative. -/
theorem sq_nonneg (h : ℕ → EReal) : 0 ≤ sq h := Finset.sum_nonneg fun _ _ => sq_nonneg' _

/-- One square is at most the sum. -/
theorem le_sq (h : ℕ → EReal) (c : ℕ) (hc : c < 8192) : h c * h c ≤ sq h :=
  Finset.single_le_sum (f := fun c => h c * h c) (fun _ _ => sq_nonneg' _) (Finset.mem_range.mpr hc)

/-- The two reciprocal roots are one. -/
theorem rs_eq (h : ℕ → EReal) : rRs h = kRs h := by
  unfold rRs kRs
  rw [sq_ref, sq_ker, c_8192, c_13, Ideal.div, if_neg (by exact_mod_cast (by norm_num : (8192 : ℝ) ≠ 0)), ← EReal.coe_inv]
  norm_num

/-- The reciprocal root is a real at least 0, and times any entry of the row at most 100 in size. -/
theorem rs_bound (h : ℕ → EReal) : ∃ ρ : ℝ, kRs h = (ρ : EReal) ∧ 0 ≤ ρ ∧
    ∀ c < 8192, ∃ z : ℝ, h c * (ρ : EReal) = (z : EReal) ∧ |z| ≤ 100 := by
  have e : kRs h = Ideal.rsqrt (sq h * (((2 : ℝ) ^ (-13 : ℤ) : ℝ) : EReal) + ((8796093 * (2 : ℝ) ^ (-43 : ℤ) : ℝ) : EReal)) := by
    unfold kRs; rw [sq_ker, c_13, c_eps]
  have h0 := sq_nonneg h
  have hle := le_sq h
  rw [e]
  generalize sq h = s at h0 hle
  induction s using EReal.rec with
  | bot => simp at h0
  | top =>
    refine ⟨0, ?_, le_rfl, fun c _ => ⟨0, by simp, by simp⟩⟩
    rw [EReal.top_mul_coe_of_pos (by positivity), EReal.top_add_coe]
    rfl
  | coe r =>
    have hr : 0 ≤ r := EReal.coe_nonneg.mp h0
    have hpos : 0 < r * 2 ^ (-13 : ℤ) + 8796093 * (2 : ℝ) ^ (-43 : ℤ) := by positivity
    refine ⟨(Real.sqrt (r * 2 ^ (-13 : ℤ) + 8796093 * (2 : ℝ) ^ (-43 : ℤ)))⁻¹, ?_, by positivity, fun c hc => ?_⟩
    · rw [← EReal.coe_mul, ← EReal.coe_add]
      show (if _ < 0 then _ else if _ = 0 then _ else _) = _
      rw [if_neg (not_lt.mpr hpos.le), if_neg hpos.ne']
    · have hx := hle c hc
      have hs : 0 < Real.sqrt (r * 2 ^ (-13 : ℤ) + 8796093 * (2 : ℝ) ^ (-43 : ℤ)) := Real.sqrt_pos.mpr hpos
      generalize h c = x at hx
      induction x using EReal.rec with
      | bot => simp at hx
      | top => simp at hx
      | coe x =>
        rw [← EReal.coe_mul, EReal.coe_le_coe_iff] at hx
        refine ⟨x * (Real.sqrt (r * 2 ^ (-13 : ℤ) + 8796093 * (2 : ℝ) ^ (-43 : ℤ)))⁻¹, by rw [EReal.coe_mul], ?_⟩
        rw [abs_mul, abs_inv, abs_of_pos hs, ← div_eq_mul_inv, div_le_iff₀ hs]
        apply abs_le_of_sq_le_sq _ (by positivity)
        rw [mul_pow, Real.sq_sqrt hpos.le]
        have : (2 : ℝ) ^ (-13 : ℤ) = 1 / 8192 := by norm_num
        rw [this]
        have h2 : (0 : ℝ) < 8796093 * (2 : ℝ) ^ (-43 : ℤ) := by positivity
        nlinarith

/-! ## The largest magnitude -/

/-- A magnitude is not negative. -/
theorem mag_nonneg (x : EReal) : 0 ≤ mag x := by
  unfold mag
  rcases le_total 0 x with h | h
  · exact le_max_of_le_left h
  · exact le_max_of_le_right (by rw [← neg_zero]; exact EReal.neg_le_neg_iff.mpr h)

/-- A nonnegative real factor comes out of a magnitude. -/
theorem mag_mul (x : EReal) {ρ : ℝ} (hρ : 0 ≤ ρ) : mag (x * ρ) = mag x * ρ := by
  unfold mag
  rw [← EReal.neg_mul]
  exact ((monotone_mul_right_of_nonneg (EReal.coe_nonneg.mpr hρ)).map_max).symm

/-- The magnitude of a real is its absolute value. -/
theorem mag_coe (z : ℝ) : mag (z : EReal) = ((|z| : ℝ) : EReal) := by
  unfold mag
  rw [← EReal.coe_neg]
  exact (EReal.coe_strictMono.monotone.map_max (a := z) (b := -z)).symm

/-- A maximum over 128 lanes is one of them. -/
theorem fold_max_eq (f : Fin 128 → EReal) : ∃ x0, (Finset.univ.fold max (Ideal.ofBits .f32 0xFF800000#32) f) = f x0 ∧ ∀ x, f x ≤ f x0 := by
  obtain ⟨x0, -, hx⟩ := Finset.exists_max_image Finset.univ f ⟨0, Finset.mem_univ _⟩
  refine ⟨x0, le_antisymm ?_ ?_, fun x => hx x (Finset.mem_univ _)⟩
  · exact (Finset.fold_max_le _).mpr ⟨by rw [c_bot]; exact bot_le, fun x _ => hx x (Finset.mem_univ _)⟩
  · exact (Finset.le_fold_max _).mpr (.inr ⟨x0, Finset.mem_univ _, le_rfl⟩)

/-- The two programs compare the same block size with the powers of two. -/
theorem v_eq (h g : ℕ → EReal) (b : ℕ) : rV h g b = kV h g b := by
  unfold rV kV kAmax
  rw [rs_eq]
  obtain ⟨ρ, e, hρ, -⟩ := rs_bound h
  rw [e]
  congr 1
  obtain ⟨x0, e0, h0⟩ := fold_max_eq fun x : Fin 128 => mag (h (128 * b + x.val) * g (128 * b + x.val))
  obtain ⟨x1, e1, h1⟩ := fold_max_eq fun x : Fin 128 => mag (h (128 * b + x.val) * ρ * g (128 * b + x.val))
  have hm : ∀ x : Fin 128, mag (h (128 * b + x.val) * ρ * g (128 * b + x.val)) = mag (h (128 * b + x.val) * g (128 * b + x.val)) * ρ := fun x => by
    rw [mul_right_comm, mag_mul _ hρ]
  rw [e0, e1, hm]
  refine le_antisymm (mul_le_mul_of_nonneg_right (h0 x1) (EReal.coe_nonneg.mpr hρ)) ?_
  have := h1 x0
  simp only [hm] at this
  exact this

/-- A block size is not negative. -/
theorem v_nonneg (h g : ℕ → EReal) (b : ℕ) : 0 ≤ kV h g b := by
  unfold kV kAmax
  obtain ⟨ρ, e, hρ, -⟩ := rs_bound h
  obtain ⟨x0, e0, -⟩ := fold_max_eq fun x : Fin 128 => mag (h (128 * b + x.val) * g (128 * b + x.val))
  rw [e0, e, c_448]
  exact mul_nonneg (mul_nonneg (mag_nonneg _) (EReal.coe_nonneg.mpr hρ)) (EReal.coe_nonneg.mpr (by positivity))

/-- Weights no larger than the largest finite bf16 keep the quotient below the search's last power. -/
theorem v_lt (h g : ℕ → EReal) (hg : ∀ c, mag (g c) ≤ Ideal.ofBits .f32 0x7F7F0000#32) (b : ℕ) (hb : b < 64) : kV h g b < pw 253 := by
  rw [← v_eq]
  unfold rV
  rw [rs_eq]
  obtain ⟨ρ, e, hρ, hz⟩ := rs_bound h
  obtain ⟨x0, e0, -⟩ := fold_max_eq fun x : Fin 128 => mag (h (128 * b + x.val) * kRs h * g (128 * b + x.val))
  rw [e0, e]
  obtain ⟨z, ez, hz⟩ := hz (128 * b + x0.val) (by have := x0.isLt; omega)
  rw [ez]
  have hg' := hg (128 * b + x0.val)
  rw [c_gmax] at hg'
  generalize g (128 * b + x0.val) = y at hg'
  rw [c_448, pw_eq 253 (by omega) (by omega)]
  induction y using EReal.rec with
  | bot => exact absurd hg' (not_le.mpr (by rw [show mag ⊥ = ⊤ by simp [mag]]; exact EReal.coe_lt_top _))
  | top => exact absurd hg' (not_le.mpr (by rw [show mag ⊤ = ⊤ by simp [mag]]; exact EReal.coe_lt_top _))
  | coe y =>
    rw [mag_coe, EReal.coe_le_coe_iff] at hg'
    rw [← EReal.coe_mul, mag_coe, ← EReal.coe_mul, EReal.coe_lt_coe_iff, abs_mul]
    have h1 : |z| * |y| ≤ 100 * (255 * (2 : ℝ) ^ (120 : ℤ)) := mul_le_mul hz hg' (abs_nonneg _) (by norm_num)
    calc |z| * |y| * (9586981 * (2 : ℝ) ^ (-32 : ℤ)) ≤ 100 * (255 * (2 : ℝ) ^ (120 : ℤ)) * (9586981 * (2 : ℝ) ^ (-32 : ℤ)) :=
          mul_le_mul_of_nonneg_right h1 (by positivity)
      _ < _ := by norm_num

/-! ## The scale -/

/-- The candidate powers, as real powers of two. -/
theorem rPow_eq (x : ℕ) (hx : x < 256) : rPow x = (((2 : ℝ) ^ ((x : ℤ) - 126) : ℝ) : EReal) := by
  unfold rPow
  have : (IntOp.subi (BitVec.ofNat 32 x) 126#32).toInt = (x : ℤ) - 126 := by
    unfold IntOp.subi
    rw [BitVec.toInt_sub, BitVec.toInt_ofNat', BitVec.toInt_ofNat']
    simp only [Int.bmod]
    omega
  rw [this]
  show ((Real.rpow 2 _ : ℝ) : EReal) = _
  congr 1
  exact Real.rpow_intCast 2 _

/-- Between two neighbouring powers of two, the least power above is the upper one. -/
theorem least_eq {v : EReal} (n : ℕ) (h1 : 1 ≤ n) (h2 : n ≤ 252) (hle : pw n ≤ v) (hlt : v < pw (n + 1)) : rLeast v = pw (n + 1) := by
  have e1 : pw (n + 1) = rPow n := by
    rw [pw_eq _ (by omega) (by omega), rPow_eq _ (by omega)]; congr 2; push_cast; ring
  unfold rLeast
  refine le_antisymm ?_ ?_
  · refine (Finset.fold_min_le _).mpr (.inr ⟨⟨n, by omega⟩, Finset.mem_univ _, ?_⟩)
    rw [if_pos (by rw [← e1]; exact hlt), e1]
  · refine (Finset.le_fold_min _).mpr ⟨by rw [c_top]; exact le_top, fun x _ => ?_⟩
    split
    · rename_i hx
      have := lt_of_le_of_lt hle hx
      rw [pw_eq n h1 (by omega), rPow_eq _ x.isLt, EReal.coe_lt_coe_iff] at this
      have := (zpow_lt_zpow_iff_right₀ (by norm_num : (1 : ℝ) < 2)).mp this
      rw [e1, rPow_eq _ (by omega), rPow_eq _ x.isLt, EReal.coe_le_coe_iff]
      exact zpow_le_zpow_right₀ (by norm_num) (by omega)
    · rw [c_top]; exact le_top

/-- The scales agree, and the kernel's inverse is the reference's quotient of one by the scale. -/
theorem scale_eq {v : EReal} (hv : 0 ≤ v) (hlt : v < pw 253) :
    rScale v = kScale v ∧ Ideal.div (Ideal.ofBits .f32 0x3F800000#32) (rScale v) = kInv v := by
  rcases scale_cases hv hlt with ⟨h1, hs, hi⟩ | ⟨n, h1, h2, hle, hn, hs, hi⟩
  · have e : rScale v = 1 := by unfold rScale; rw [c_min, if_pos h1, c_one]
    rw [e, hs, hi, c_one]
    refine ⟨rfl, ?_⟩
    rw [Ideal.div, if_neg one_ne_zero, inv_one, mul_one]
  · have e : rScale v = pw (n + 1) := by
      unfold rScale
      rw [c_min, if_neg (not_lt.mpr ((pw_mono h1 (by omega)).trans hle))]
      exact least_eq n h1 h2 hle hn
    rw [e, hs, hi, c_one]
    refine ⟨rfl, ?_⟩
    rw [pw_eq _ (by omega) (by omega), pw_eq _ (by omega) (by omega), Ideal.div,
      if_neg (EReal.coe_ne_zero.mpr (by positivity)), one_mul, ← EReal.coe_inv, ← zpow_neg]
    congr 2
    push_cast [Nat.cast_sub (show n ≤ 253 by omega)]
    ring

/-! ## The row -/

variable (h g : ℕ → EReal) (hg : ∀ c, mag (g c) ≤ Ideal.ofBits .f32 0x7F7F0000#32)
include hg

/-- The two scales of a block are one. -/
theorem row_scale (b : ℕ) (hb : b < 64) : rScale (rV h g b) = kScale (kV h g b) := by
  rw [v_eq]; exact (scale_eq (v_nonneg h g b) (v_lt h g hg b hb)).1

/-- The two codes of a column are one. -/
theorem row_code (b c : ℕ) (hb : b < 64) : rCode h g b c = kCode h g b c := by
  unfold rCode kCode kT
  rw [v_eq, (scale_eq (v_nonneg h g b) (v_lt h g hg b hb)).2, rs_eq]
  congr 2
  simp only [mul_comm, mul_left_comm, mul_assoc]

end Cert.Spec
-- ==== Proof.Arrays.lean ====
/-
  The three results as arrays: each row of the sums of two arrays, the weights as one row, and the codes and scales of
  the kernel's row and of the reference's, equal where the weights are finite.
-/
module

public import proofs.«01_k».proof.Proof.Rows

@[expose] public section

noncomputable section

namespace Cert.Spec

open Idealize.ShloMosaic

/-- The arrays' shapes. -/
abbrev SA : Shape := ⟨2, ![11264, 8192]⟩
abbrev SG : Shape := ⟨2, ![1, 8192]⟩
abbrev SS : Shape := ⟨2, ![11264, 64]⟩

variable (A B : SA.Idx → EReal) (G : SG.Idx → EReal)

/-- An array read at two numbers. -/
def rdA (r c : ℕ) : EReal := A (ix2 (Fin.ofNat 11264 r) (Fin.ofNat 8192 c))

theorem rdA_eq (a : Fin 11264) (b : Fin 8192) : A (ix2 a b) = rdA A a.val b.val := by simp [rdA]

/-- Row `r` of the sum. -/
def hRow (r : ℕ) : ℕ → EReal := fun c => rdA A r c + rdA B r c

/-- The weights. -/
def gRow : ℕ → EReal := fun c => G (ix2 0 (Fin.ofNat 8192 c))

theorem gRow_eq (a : Fin 8192) : G (ix2 0 a) = gRow G a.val := by simp [gRow]

/-- The sums. -/
def hArr : SA.Idx → EReal := fun y => hRow A B (y 0).val (y 1).val
/-- The kernel's codes. -/
def cArr : SA.Idx → EReal := fun y => kCode (hRow A B (y 0).val) (gRow G) ((y 1).val / 128) (y 1).val
/-- The kernel's scales. -/
def sArr : SS.Idx → EReal := fun y => kScale (kV (hRow A B (y 0).val) (gRow G) (y 1).val)
/-- The reference's codes. -/
def cRef : SA.Idx → EReal := fun y => rCode (hRow A B (y 0).val) (gRow G) ((y 1).val / 128) (y 1).val
/-- The reference's scales. -/
def sRef : SS.Idx → EReal := fun y => rScale (rV (hRow A B (y 0).val) (gRow G) (y 1).val)

/-- Every weight is at most the largest finite bf16 in size. -/
def Finite : Prop := ∀ y : SG.Idx, mag (G y) ≤ Ideal.ofBits .f32 0x7F7F0000#32

theorem c_eq (h : Finite G) : cRef A B G = cArr A B G := funext fun y =>
  row_code _ _ (fun c => h _) _ _ (by have : (y 1).val < 8192 := (y 1).isLt; omega)

theorem s_eq (h : Finite G) : sRef A B G = sArr A B G := funext fun y =>
  row_scale _ _ (fun c => h _) _ (y 1).isLt

end Cert.Spec
-- ==== Proof.KernelArrays.lean ====
/-
  What the kernel's three result arrays hold after the run: the blocks written at the grid points put together are the
  specification of the arrays the region finds.
-/
module

public import proofs.«01_k».proof.Proof.KernelRun
public import proofs.«01_k».proof.Proof.Arrays
public import Idealize.ShloMosaic.Lib.Pipeline.ValueKit
public import Idealize.ShloMosaic.Lib.Pipeline.Covers

@[expose] public section

set_option maxRecDepth 16384

noncomputable section

namespace Cert.KernelIdeal.Hand

open Cert.KernelIdeal Cert.KernelIdeal.Gen
open Cert.Spec
open Idealize.ShloMosaic Idealize.ShloMosaic.TcCoe Idealize.ShloMosaic.Tactic
open Idealize.ShloMosaic.Pipeline (Dat)

variable (m : (ℓ : Loc nD τ sig) → Buf (Elt Idealize.ShloMosaic.Ideal) ℓ)

/-- Every window's block index at a point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] :=
  (by decide +kernel : ∀ t : Fin grid0.N, _)

/-- The array a window's block is read off, as the region finds it. -/
abbrev inA (c : Dev nD) : SA.Idx → EReal := V m c main_v2
abbrev inB (c : Dev nD) : SA.Idx → EReal := V m c main_v3
abbrev inG (c : Dev nD) : SG.Idx → EReal := V m c main_v1

/-- Row `r` of the first block at point `t` is row `128 t + r` of its array. -/
theorem blk0 (c : Dev nD) (t : Fin cfg0.N) (r : ℕ) (hr : r < 128) : rd2 (iblk m c 0 t) r = rdA (inA m c) (t.val * 128 + r) := by
  funext j
  unfold rd2 rdA inA
  generalize hX : V m c main_v2 = X
  blk_ext [iblk, hX, idx t]
  have ht : t.val < 88 := t.isLt
  simp only [Fin.val_ofNat]
  omega

/-- Row `r` of the second. -/
theorem blk1 (c : Dev nD) (t : Fin cfg0.N) (r : ℕ) (hr : r < 128) : rd2 (iblk m c 1 t) r = rdA (inB m c) (t.val * 128 + r) := by
  funext j
  unfold rd2 rdA inB
  generalize hX : V m c main_v3 = X
  blk_ext [iblk, hX, idx t]
  have ht : t.val < 88 := t.isLt
  simp only [Fin.val_ofNat]
  omega

/-- The weights' block is the whole row at every point. -/
theorem blk2 (c : Dev nD) (t : Fin cfg0.N) : gAt (iblk m c 2 t) = gRow (inG m c) := by
  funext j
  unfold gAt gRow inG
  generalize hX : V m c main_v1 = X
  blk_ext [iblk, hX, idx t]

/-- Row `r` of the sum of the blocks is row `128 t + r` of the sum of the arrays. -/
theorem hAt_blk (c : Dev nD) (t : Fin cfg0.N) (r : ℕ) (hr : r < 128) :
    hAt (iblk m c 0 t) (iblk m c 1 t) r = hRow (inA m c) (inB m c) (t.val * 128 + r) := by
  unfold hAt hRow
  rw [blk0 m c t r hr, blk1 m c t r hr]

/-- The array of sums after the run. -/
theorem arr3 (c : Dev nD) : (vdats m 0 c).arrAt 3 cfg0.N = hArr (inA m c) (inB m c) := by
  refine (vdats m 0 c).arrAt_eq_of_covers 3 _ (by decide +kernel) fun t hf y => ?_
  rw [vafter0_3]
  have hy : (y 0).val < 128 := (y 0).isLt
  have e0 : (((win0_3.blk t).view.emb y) 0).val = t.val * 128 + (y 0).val := by blk_simp [idx t]
  have e1 : (((win0_3.blk t).view.emb y) 1).val = (y 1).val := by blk_simp [idx t]
  blk_simp
  unfold hSpec hArr
  rw [e0, e1, hAt_blk m c t _ hy]

/-- The array of codes after the run. -/
theorem arr4 (c : Dev nD) : (vdats m 0 c).arrAt 4 cfg0.N = cArr (inA m c) (inB m c) (inG m c) := by
  refine (vdats m 0 c).arrAt_eq_of_covers 4 _ (by decide +kernel) fun t hf y => ?_
  rw [vafter0_4]
  have hy : (y 0).val < 128 := (y 0).isLt
  have e0 : (((win0_4.blk t).view.emb y) 0).val = t.val * 128 + (y 0).val := by blk_simp [idx t]
  have e1 : (((win0_4.blk t).view.emb y) 1).val = (y 1).val := by blk_simp [idx t]
  blk_simp
  unfold cSpec cArr
  rw [e0, e1, hAt_blk m c t _ hy, blk2]

/-- The array of scales after the run. -/
theorem arr5 (c : Dev nD) : (vdats m 0 c).arrAt 5 cfg0.N = sArr (inA m c) (inB m c) (inG m c) := by
  refine (vdats m 0 c).arrAt_eq_of_covers 5 _ (by decide +kernel) fun t hf y => ?_
  rw [vafter0_5]
  have hy : (y 0).val < 128 := (y 0).isLt
  have e0 : (((win0_5.blk t).view.emb y) 0).val = t.val * 128 + (y 0).val := by blk_simp [idx t]
  have e1 : (((win0_5.blk t).view.emb y) 1).val = (y 1).val := by blk_simp [idx t]
  blk_simp
  unfold sSpec sArr
  rw [e0, e1, hAt_blk m c t _ hy, blk2]

/-- The arrays the region finds are the arguments: the two summands with their leading axes merged, the weights widened
    and laid as one row. -/
theorem inA_eq (c : Dev nD) : inA m c = shapeCast S11264x8192 (m ((c.tc : Thread nD τ).loc main_arg0)) shapeCasts_S11x1024x8192_S11264x8192 := by
  unfold inA
  entry_read
  rfl

theorem inB_eq (c : Dev nD) : inB m c = shapeCast S11264x8192 (m ((c.tc : Thread nD τ).loc main_arg1)) shapeCasts_S11x1024x8192_S11264x8192 := by
  unfold inB
  entry_read
  rfl

theorem inG_eq (c : Dev nD) : inG m c = shapeCast S1x8192 (m ((c.tc : Thread nD τ).loc main_arg2)) shapeCasts_S8192_S1x8192 := by
  unfold inG
  entry_read
  rfl

end Cert.KernelIdeal.Hand
-- ==== Proof.RefRows.lean ====
/-
  What the reference's body leaves in each output block, index by index: its row of sums, scales and codes.
-/
module

public import proofs.«01_k».proof.Proof.Gen.ReferenceIdeal.Frame
public import proofs.«01_k».proof.Proof.Arrays
public import Idealize.ShloMosaic.Lib.Pointwise
public import Idealize.ShloMosaic.Lib.Pipeline.Value

@[expose] public section

set_option maxRecDepth 16384

noncomputable section

namespace Cert.ReferenceIdeal.Hand

open Cert.ReferenceIdeal Cert.ReferenceIdeal.Gen
open Cert.Spec
open Idealize.ShloMosaic Idealize.ShloMosaic.TcCoe Idealize.ShloMosaic.Tactic

variable (x0 x1 : Vec Idealize.ShloMosaic.Ideal S11264x8192 .bf16) (x2 : Vec Idealize.ShloMosaic.Ideal S1x8192 .bf16)

/-- The rounded sum, at a row and a column. -/
theorem pay3_at (r : Fin 11264) (c : Fin 8192) : k0_pay3 x0 x1 (ix2 r c) = hRow x0 x1 r.val c.val := by
  unfold_payloads
  pointwise
  simp only [rdA_eq]
  rfl

/-- A maximum along the last axis of three, at an index. -/
theorem max_at {n0 n1 n2 : ℕ} (v : FVec Idealize.ShloMosaic.Ideal ⟨3, ![n0, n1, n2]⟩ .f32) (acc : BitVec 32) (h : Shape.Reduces ⟨3, ![n0, n1, n2]⟩ [2] ⟨2, ![n0, n1]⟩)
    (hφ : FKind.Formats .f32) (hacc : acc = FKind.maximumf.neutral .f32 hφ) (a : Fin n0) (b : Fin n1) :
    multiReduction .maximumf [2] ⟨2, ![n0, n1]⟩ v acc h hφ hacc (ix2 a b)
      = (Finset.univ : Finset (Fin n2)).fold max (Ideal.ofBits .f32 acc) fun k => v (ix3 a b k) := by
  rw [multiReduction_maximumf_eq_fold, Shape.Reduces.fold_fiber_r3_a2]
  rfl

/-- A minimum along the last axis of three, at an index. -/
theorem min_at {n0 n1 n2 : ℕ} (v : FVec Idealize.ShloMosaic.Ideal ⟨3, ![n0, n1, n2]⟩ .f32) (acc : BitVec 32) (h : Shape.Reduces ⟨3, ![n0, n1, n2]⟩ [2] ⟨2, ![n0, n1]⟩)
    (hφ : FKind.Formats .f32) (hacc : acc = FKind.minimumf.neutral .f32 hφ) (a : Fin n0) (b : Fin n1) :
    multiReduction .minimumf [2] ⟨2, ![n0, n1]⟩ v acc h hφ hacc (ix2 a b)
      = (Finset.univ : Finset (Fin n2)).fold min (Ideal.ofBits .f32 acc) fun k => v (ix3 a b k) := by
  rw [multiReduction_minimumf_eq_fold, Shape.Reduces.fold_fiber_r3_a2]
  rfl

/-- The normalised value, at a row, a block and a lane. -/
theorem pay4_at (r : Fin 11264) (b : Fin 64) (l : Fin 128) :
    k0_pay4 x0 x1 x2 (ix3 r b l) = hRow x0 x1 r.val (128 * b.val + l.val) * rRs (hRow x0 x1 r.val) * gRow x2 (128 * b.val + l.val) := by
  unfold k0_pay4
  pointwise
  simp only [pay3_at, gRow_eq, Nat.mul_comm b.val]
  rfl

/-- A largest magnitude along the last axis, scaled by a constant, at an index. -/
theorem vmax_at {n0 n1 n2 : ℕ} (v : FVec Idealize.ShloMosaic.Ideal ⟨3, ![n0, n1, n2]⟩ .f32) (acc w : BitVec 32) (h : Shape.Reduces ⟨3, ![n0, n1, n2]⟩ [2] ⟨2, ![n0, n1]⟩)
    (hφ : FKind.Formats .f32) (hacc : acc = FKind.maximumf.neutral .f32 hφ) (a : Fin n0) (b : Fin n1) :
    mulf (multiReduction .maximumf [2] ⟨2, ![n0, n1]⟩ (absf v) acc h hφ hacc) (broadcast ⟨2, ![n0, n1]⟩ (Scalar.ofBits (F := Idealize.ShloMosaic.Ideal) .f32 w)) (ix2 a b)
      = ((Finset.univ : Finset (Fin n2)).fold max (Ideal.ofBits .f32 acc) fun k => mag (v (ix3 a b k))) * Ideal.ofBits .f32 w :=
  congrArg (fun z : EReal => z * Ideal.ofBits .f32 w) (max_at (absf v) acc h hφ hacc a b)

/-- The block size. -/
theorem pay5_at (r : Fin 11264) (b : Fin 64) :
    k0_pay5 x0 x1 x2 (ix2 r b) = rV (hRow x0 x1 r.val) (gRow x2) b.val := by
  have hY := pay4_at x0 x1 x2 r b
  unfold k0_pay5
  generalize k0_pay4 x0 x1 x2 = Y at hY ⊢
  refine (vmax_at Y _ _ _ _ _ r b).trans ?_
  simp only [hY]
  rfl

/-- One candidate of the search for the scale. -/
theorem inner_at (Y : FVec Idealize.ShloMosaic.Ideal S11264x64 .f32) (r : Fin 11264) (b : Fin 64) (k : Fin 256) :
    select (cmpf .ogt (exp2 (sitofp (F := Idealize.ShloMosaic.Ideal) .f32 (subi (iota .tc S11264x64x256 32 [2] iota_S11264x64x256_d2_w32) (broadcast S11264x64x256 126#32))))
      (broadcastTo S11264x64x256 (shapeCast S11264x64x1 Y shapeCasts_S11264x64_S11264x64x1) broadcasts_S11264x64x1_S11264x64x256))
      (exp2 (sitofp (F := Idealize.ShloMosaic.Ideal) .f32 (subi (iota .tc S11264x64x256 32 [2] iota_S11264x64x256_d2_w32) (broadcast S11264x64x256 126#32))))
      (broadcast S11264x64x256 (Scalar.ofBits (F := Idealize.ShloMosaic.Ideal) .f32 0x7F800000#32)) (ix3 r b k)
      = if Y (ix2 r b) < rPow k.val then rPow k.val else Ideal.ofBits .f32 0x7F800000#32 := by
  pointwise
  rfl

/-- The least power of two above the block size. -/
theorem pay6_at (r : Fin 11264) (b : Fin 64) :
    k0_pay6 x0 x1 x2 (ix2 r b) = rLeast (rV (hRow x0 x1 r.val) (gRow x2) b.val) := by
  have hY := pay5_at x0 x1 x2 r b
  unfold k0_pay6
  generalize k0_pay5 x0 x1 x2 = Y at hY ⊢
  rw [← hY]
  refine (min_at _ _ _ _ _ r b).trans ?_
  unfold rLeast
  exact Finset.fold_congr fun k _ => inner_at Y r b k

/-- The choice between one and the least power. -/
theorem scale_at (Y Z : FVec Idealize.ShloMosaic.Ideal S11264x64 .f32) (r : Fin 11264) (b : Fin 64) :
    k0_pay1 Y Z (k0_pay7 (F := Idealize.ShloMosaic.Ideal)) (ix2 r b) = if Y (ix2 r b) < Ideal.ofBits .f32 0x00800000#32 then Ideal.ofBits .f32 0x3F800000#32 else Z (ix2 r b) := by
  unfold k0_pay1 k0_pay7
  pointwise

/-- The stored scale. -/
theorem pay1_at (r : Fin 11264) (b : Fin 64) :
    k0_pay1 (k0_pay5 x0 x1 x2) (k0_pay6 x0 x1 x2) (k0_pay7 (F := Idealize.ShloMosaic.Ideal)) (ix2 r b) = rScale (rV (hRow x0 x1 r.val) (gRow x2) b.val) := by
  rw [scale_at, pay5_at, pay6_at]
  rfl

/-- The clipped quotient, from the normalised values and the scale. -/
theorem code_at (Y : FVec Idealize.ShloMosaic.Ideal S11264x64x128 .f32) (Z U V : FVec Idealize.ShloMosaic.Ideal S11264x64 .f32) (r : Fin 11264) (c : Fin 8192) :
    k0_pay2 Y Z U V (ix2 r c) = min (Ideal.ofBits .f32 0x43E00000#32) (max (Ideal.ofBits .f32 0xC3E00000#32)
      (Y (ix3 r ⟨c.val / 128, by omega⟩ ⟨c.val % 128, by omega⟩) * Ideal.div (Ideal.ofBits .f32 0x3F800000#32) (k0_pay1 Z U V (ix2 r ⟨c.val / 128, by omega⟩)))) := by
  unfold k0_pay2
  generalize k0_pay1 Z U V = W
  pointwise

/-- The stored code. -/
theorem pay2_at (r : Fin 11264) (c : Fin 8192) :
    k0_pay2 (k0_pay4 x0 x1 x2) (k0_pay5 x0 x1 x2) (k0_pay6 x0 x1 x2) (k0_pay7 (F := Idealize.ShloMosaic.Ideal)) (ix2 r c)
      = rCode (hRow x0 x1 r.val) (gRow x2) (c.val / 128) c.val := by
  rw [code_at, pay4_at, pay1_at]
  simp only [Nat.div_add_mod]
  rfl

end Cert.ReferenceIdeal.Hand
-- ==== Proof.RefArrays.lean ====
/-
  What the reference's three result arrays hold after the run: the one block of each is the whole array, the reference's
  rows of the arrays the region finds.
-/
module

public import proofs.«01_k».proof.Proof.RefRows
public import Idealize.ShloMosaic.Lib.Pipeline.ValueKit

@[expose] public section

set_option maxRecDepth 16384

noncomputable section

namespace Cert.ReferenceIdeal.Hand

open Cert.ReferenceIdeal Cert.ReferenceIdeal.Gen
open Cert.Spec
open Idealize.ShloMosaic Idealize.ShloMosaic.TcCoe Idealize.ShloMosaic.Tactic
open Idealize.ShloMosaic.Pipeline (Dat)

/-- What the body leaves in the block of sums, -/
theorem out3 (x0 x1 : Vec Idealize.ShloMosaic.Ideal S11264x8192 .bf16) (x2 : Vec Idealize.ShloMosaic.Ideal S1x8192 .bf16) (y : SA.Idx) : out0_3 x0 x1 x2 y = hArr x0 x1 y := by
  frame_out
  idx_vars y
  exact pay3_at x0 x1 _ _

/-- of codes, -/
theorem out4 (x0 x1 : Vec Idealize.ShloMosaic.Ideal S11264x8192 .bf16) (x2 : Vec Idealize.ShloMosaic.Ideal S1x8192 .bf16) (y : SA.Idx) : out0_4 x0 x1 x2 y = cRef x0 x1 x2 y := by
  unfold out0_4 k0_pay10 k0_pay9 k0_pay8
  frame_out
  idx_vars y
  exact pay2_at x0 x1 x2 _ _

/-- and of scales. -/
theorem out5 (x0 x1 : Vec Idealize.ShloMosaic.Ideal S11264x8192 .bf16) (x2 : Vec Idealize.ShloMosaic.Ideal S1x8192 .bf16) (y : SS.Idx) : out0_5 x0 x1 x2 y = sRef x0 x1 x2 y := by
  unfold out0_5 k0_pay10 k0_pay9 k0_pay8
  frame_out
  idx_vars y
  exact pay1_at x0 x1 x2 _ _

variable (m : (ℓ : Loc nD τ sig) → Buf (Elt Idealize.ShloMosaic.Ideal) ℓ)

/-- Every window's block index at the one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The array a window's block is read off, as the region finds it. -/
abbrev inA (c : Dev nD) : SA.Idx → EReal := V m c main_v0
abbrev inB (c : Dev nD) : SA.Idx → EReal := V m c main_v1
abbrev inG (c : Dev nD) : SG.Idx → EReal := V m c main_v2

/-- Each input's block is its whole array. -/
theorem blk0 (c : Dev nD) (t : Fin cfg0.N) : iblk m c 0 t = inA m c := by
  unfold inA
  generalize hX : V m c main_v0 = X
  blk_ext! [iblk, hX, idx t]

theorem blk1 (c : Dev nD) (t : Fin cfg0.N) : iblk m c 1 t = inB m c := by
  unfold inB
  generalize hX : V m c main_v1 = X
  blk_ext! [iblk, hX, idx t]

theorem blk2 (c : Dev nD) (t : Fin cfg0.N) : iblk m c 2 t = inG m c := by
  unfold inG
  generalize hX : V m c main_v2 = X
  blk_ext! [iblk, hX, idx t]

/-- The array of sums after the run. -/
theorem arr3 (c : Dev nD) : (dats m 0 c).arrAt 3 cfg0.N = hArr (inA m c) (inB m c) := by
  refine (dats m 0 c).arrAt_eq_of_covers 3 _ (by decide +kernel) fun t hf y => ?_
  rw [after0_3, blk0, blk1, blk2]
  have e : ((win0_3.blk t).view.emb y) = y := by blk_ext [idx t]
  blk_simp
  rw [e]
  exact out3 _ _ _ y

/-- The array of codes after the run. -/
theorem arr4 (c : Dev nD) : (dats m 0 c).arrAt 4 cfg0.N = cRef (inA m c) (inB m c) (inG m c) := by
  refine (dats m 0 c).arrAt_eq_of_covers 4 _ (by decide +kernel) fun t hf y => ?_
  rw [after0_4, blk0, blk1, blk2]
  have e : ((win0_4.blk t).view.emb y) = y := by blk_ext [idx t]
  blk_simp
  rw [e]
  exact out4 _ _ _ y

/-- The array of scales after the run. -/
theorem arr5 (c : Dev nD) : (dats m 0 c).arrAt 5 cfg0.N = sRef (inA m c) (inB m c) (inG m c) := by
  refine (dats m 0 c).arrAt_eq_of_covers 5 _ (by decide +kernel) fun t hf y => ?_
  rw [after0_5, blk0, blk1, blk2]
  have e : ((win0_5.blk t).view.emb y) = y := by blk_ext [idx t]
  blk_simp
  rw [e]
  exact out5 _ _ _ y

/-- The arrays the region finds are the arguments: the two summands with their leading axes merged, the weights laid as
    one row. -/
theorem inA_eq (c : Dev nD) : inA m c = shapeCast S11264x8192 (m ((c.tc : Thread nD τ).loc main_arg0)) shapeCasts_S11x1024x8192_S11264x8192 := by
  unfold inA
  entry_read
  rfl

theorem inB_eq (c : Dev nD) : inB m c = shapeCast S11264x8192 (m ((c.tc : Thread nD τ).loc main_arg1)) shapeCasts_S11x1024x8192_S11264x8192 := by
  unfold inB
  entry_read
  rfl

theorem inG_eq (c : Dev nD) : inG m c = shapeCast S1x8192 (m ((c.tc : Thread nD τ).loc main_arg2)) shapeCasts_S8192_S1x8192 := by
  unfold inG
  entry_read
  rfl

end Cert.ReferenceIdeal.Hand
-- ==== Proof.Value.lean ====
/-
  The value claim: over the extended reals, from arguments that agree and weights that are finite, the kernel's program
  and the reference's leave the same three arrays.
-/
module

public import proofs.«01_k».proof.Defs
public import proofs.«01_k».proof.Proof.KernelArrays
public import proofs.«01_k».proof.Proof.RefArrays

@[expose] public section

set_option maxRecDepth 16384

noncomputable section

namespace Cert.Proof

open Idealize.ShloMosaic Idealize.ShloMosaic.TcCoe Idealize.ShloMosaic.Tactic Idealize.SL.Sem
open Cert.Spec

/-- The side conditions the precondition's function states. -/
theorem pre_facts : Cert.Pre_gamma_finite.Facts where
  bitsLt_bf16_f32 := by decide
  bcast_S_S8192 := by decide

/-- What the precondition's function says at one weight. -/
theorem pre_at (A B : FVec Idealize.ShloMosaic.Ideal Cert.Pre_gamma_finite.S11x1024x8192 .bf16) (X : FVec Idealize.ShloMosaic.Ideal Cert.Pre_gamma_finite.S8192 .bf16)
    (i : Cert.Pre_gamma_finite.S8192.Idx)
    (h : @Cert.Pre_gamma_finite.fn pre_facts Idealize.ShloMosaic.Ideal _ A B X i = 1#1) : mag (X i) ≤ Ideal.ofBits .f32 0x7F7F0000#32 := by
  have e : @Cert.Pre_gamma_finite.fn pre_facts Idealize.ShloMosaic.Ideal _ A B X i
      = BitVec.ofBool (decide (mag (X i) ≤ Ideal.ofBits .f32 0x7F7F0000#32)) := rfl
  rw [e] at h
  by_contra hn
  rw [decide_eq_false hn] at h
  exact absurd h (by decide)

/-- The precondition says that every weight is finite. -/
theorem finite_of_pre (m : (ℓ : Loc Cert.KernelIdeal.nD Cert.KernelIdeal.τ Cert.KernelIdeal.sig) → Buf (Elt Idealize.ShloMosaic.Ideal) ℓ)
    (h : Cert.Pre_KernelIdeal_gamma_finite (hPre_gamma_finite := pre_facts) m) (c : Dev Cert.KernelIdeal.nD) : Finite (Cert.KernelIdeal.Hand.inG m c) := by
  intro y
  rw [Cert.KernelIdeal.Hand.inG_eq]
  exact pre_at _ _ _ _ (congrFun (h c) _)

section
variable (m : (ℓ : Loc Cert.KernelIdeal.nD Cert.KernelIdeal.τ Cert.KernelIdeal.sig) → Buf (Elt Idealize.ShloMosaic.Ideal) ℓ)
  (m' : (ℓ : Loc Cert.ReferenceIdeal.nD Cert.ReferenceIdeal.τ Cert.ReferenceIdeal.sig) → Buf (Elt Idealize.ShloMosaic.Ideal) ℓ) (c : Dev Cert.KernelIdeal.nD)

/-- The two programs' regions find the same arrays when their arguments agree. -/
theorem inA_agree (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Hand.inA m' c = Cert.KernelIdeal.Hand.inA m c := by
  rw [Cert.ReferenceIdeal.Hand.inA_eq, Cert.KernelIdeal.Hand.inA_eq, h]

theorem inB_agree (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Hand.inB m' c = Cert.KernelIdeal.Hand.inB m c := by
  rw [Cert.ReferenceIdeal.Hand.inB_eq, Cert.KernelIdeal.Hand.inB_eq, h]

theorem inG_agree (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Hand.inG m' c = Cert.KernelIdeal.Hand.inG m c := by
  rw [Cert.ReferenceIdeal.Hand.inG_eq, Cert.KernelIdeal.Hand.inG_eq, h]

end

/-- From arguments that agree, the weights finite, the two programs leave equal sums, codes and scales. -/
theorem algebraic : Cert.algebraic_KernelIdeal_ReferenceIdeal_pre_gamma_finite (hPre_gamma_finite := pre_facts) := by
  pair_intro
  · run_from ((θ_run _ _ _).mono (fun _ h => h.1) (Cert.KernelIdeal.Hand.vrun_main m g))
  · run_from Cert.ReferenceIdeal.Gen.run_main m' g'
    · refine (Cert.ReferenceIdeal.Hand.arr3 m' c).trans (Eq.trans ?_ (Cert.KernelIdeal.Hand.arr3 m c).symm)
      rw [inA_agree m m' c (hagree c).1, inB_agree m m' c (hagree c).2.1]
    · refine (Cert.ReferenceIdeal.Hand.arr4 m' c).trans (Eq.trans ?_ (Cert.KernelIdeal.Hand.arr4 m c).symm)
      rw [inA_agree m m' c (hagree c).1, inB_agree m m' c (hagree c).2.1, inG_agree m m' c (hagree c).2.2]
      exact c_eq _ _ _ (finite_of_pre m hpre c)
    · refine (Cert.ReferenceIdeal.Hand.arr5 m' c).trans (Eq.trans ?_ (Cert.KernelIdeal.Hand.arr5 m c).symm)
      rw [inA_agree m m' c (hagree c).1, inB_agree m m' c (hagree c).2.1, inG_agree m m' c (hagree c).2.2]
      exact s_eq _ _ _ (finite_of_pre m hpre c)

end Cert.Proof
-- ==== Proof.lean ====
module

public import proofs.«01_k».proof.Defs
public import proofs.«01_k».proof.Proof.KernelBody
public import proofs.«01_k».proof.Proof.KernelIdealBody
public import proofs.«01_k».proof.Proof.Gen.ReferenceIdeal.Frame
public import proofs.«01_k».proof.Proof.Value
public import Idealize.ShloMosaic.Adequacy
public import Idealize.ShloMosaic.Init

@[expose] public section

noncomputable section

namespace Cert.Proof

open Idealize.ShloMosaic Idealize.SL.Sem

/-- Every claim the certificate states. -/
theorem claim : Cert.Claim := ⟨Cert.Kernel.Gen.facts, Cert.KernelIdeal.Gen.facts, Cert.ReferenceIdeal.Gen.facts, pre_facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  algebraic⟩

end Cert.Proof

end
